-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  IdealRules.named_const.Statement Cert.KernelIdeal.κ "q_prescale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_2)) (v2 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_2) = v1 c
          ∧ r.2.mem ((c.tc : Thread Cert.KernelIdeal.nD Cert.KernelIdeal.τ).loc Cert.KernelIdeal.main_v21_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x4096x4x2x64 : Shape := ⟨5, ![4, 4096, 4, 2, 64]⟩
abbrev S4x4096x2x4x64 : Shape := ⟨5, ![4, 4096, 2, 4, 64]⟩
abbrev S4x4096x4x128 : Shape := ⟨4, ![4, 4096, 4, 128]⟩
abbrev S4x4096x2x64 : Shape := ⟨4, ![4, 4096, 2, 64]⟩
abbrev S4x256x4x2x64 : Shape := ⟨5, ![4, 256, 4, 2, 64]⟩
abbrev S4x256x4x128 : Shape := ⟨4, ![4, 256, 4, 128]⟩
abbrev S4x256x2x64 : Shape := ⟨4, ![4, 256, 2, 64]⟩
abbrev S4x64 : Shape := ⟨2, ![4, 64]⟩
abbrev S128 : Shape := ⟨1, ![128]⟩
abbrev S_ : Shape := ⟨0, ![]⟩

class Facts : Prop where
  bcast_S_S4x4096x4x2x64 : S_.BroadcastsInDim S4x4096x4x2x64 (![] : Fin 0 → Fin S4x4096x4x2x64.rank)
  bcast_S_S4x4096x2x4x64 : S_.BroadcastsInDim S4x4096x2x4x64 (![] : Fin 0 → Fin S4x4096x2x4x64.rank)
  bcast_S_S4x4096x4x128 : S_.BroadcastsInDim S4x4096x4x128 (![] : Fin 0 → Fin S4x4096x4x128.rank)
  bcast_S_S4x4096x2x64 : S_.BroadcastsInDim S4x4096x2x64 (![] : Fin 0 → Fin S4x4096x2x64.rank)
  bcast_S_S4x256x4x2x64 : S_.BroadcastsInDim S4x256x4x2x64 (![] : Fin 0 → Fin S4x256x4x2x64.rank)
  bcast_S_S4x256x4x128 : S_.BroadcastsInDim S4x256x4x128 (![] : Fin 0 → Fin S4x256x4x128.rank)
  bcast_S_S4x256x2x64 : S_.BroadcastsInDim S4x256x2x64 (![] : Fin 0 → Fin S4x256x2x64.rank)
  bcast_S_S4x64 : S_.BroadcastsInDim S4x64 (![] : Fin 0 → Fin S4x64.rank)

variable [Facts]

def fn_part1 {F : FTy → Type} [FloatOps F] (main_arg6 : FVec F S4x256x4x2x64 .f32) (main_arg7 : FVec F S4x256x4x128 .f32) (main_arg8 : FVec F S4x256x2x64 .f32) (main_arg9 : FVec F S4x256x2x64 .f32) (main_arg10 : FVec F S4x64 .f32) (main_v2 : IVec S4x4096x4x2x64 1) (main_v5 : IVec S4x4096x2x4x64 1) (main_v8 : IVec S4x4096x4x2x64 1) (main_v11 : IVec S4x4096x4x128 1) (main_v14 : IVec S4x4096x2x64 1) (main_v17 : IVec S4x4096x2x64 1) : IVec S4x4096x4x2x64 1 × IVec S4x4096x2x4x64 1 × IVec S4x4096x4x2x64 1 × IVec S4x4096x4x128 1 × IVec S4x4096x2x64 1 × IVec S4x4096x2x64 1 × IVec S4x256x4x2x64 1 × IVec S4x256x4x128 1 × IVec S4x256x2x64 1 × IVec S4x256x2x64 1 × IVec S4x64 1 :=
  let main_v18 : FVec F S4x256x4x2x64 .f32 := Host.absf main_arg6
  let main_cst_5 : FVec F S_ .f32 := constant S_ .f32 0x7F800000#32
  let main_v19 : FVec F S4x256x4x2x64 .f32 := broadcastInDim S4x256x4x2x64 ![] bcast_S_S4x256x4x2x64 main_cst_5
  let main_v20 : IVec S4x256x4x2x64 1 := cmpf .olt main_v18 main_v19
  let main_v21 : FVec F S4x256x4x128 .f32 := Host.absf main_arg7
  let main_cst_6 : FVec F S_ .f32 := constant S_ .f32 0x7F800000#32
  let main_v22 : FVec F S4x256x4x128 .f32 := broadcastInDim S4x256x4x128 ![] bcast_S_S4x256x4x128 main_cst_6
  let main_v23 : IVec S4x256x4x128 1 := cmpf .olt main_v21 main_v22
  let main_v24 : FVec F S4x256x2x64 .f32 := Host.absf main_arg8
  let main_cst_7 : FVec F S_ .f32 := constant S_ .f32 0x7F800000#32
  let main_v25 : FVec F S4x256x2x64 .f32 := broadcastInDim S4x256x2x64 ![] bcast_S_S4x256x2x64 main_cst_7
  let main_v26 : IVec S4x256x2x64 1 := cmpf .olt main_v24 main_v25
  let main_v27 : FVec F S4x256x2x64 .f32 := Host.absf main_arg9
  let main_cst_8 : FVec F S_ .f32 := constant S_ .f32 0x7F800000#32
  let main_v28 : FVec F S4x256x2x64 .f32 := broadcastInDim S4x256x2x64 ![] bcast_S_S4x256x2x64 main_cst_8
  let main_v29 : IVec S4x256x2x64 1 := cmpf .olt main_v27 main_v28
  let main_v30 : FVec F S4x64 .f32 := Host.absf main_arg10
  let main_cst_9 : FVec F S_ .f32 := constant S_ .f32 0x7F800000#32
  let main_v31 : FVec F S4x64 .f32 := broadcastInDim S4x64 ![] bcast_S_S4x64 main_cst_9
  let main_v32 : IVec S4x64 1 := cmpf .olt main_v30 main_v31
  (main_v2, main_v5, main_v8, main_v11, main_v14, main_v17, main_v20, main_v23, main_v26, main_v29, main_v32)

def fn {F : FTy → Type} [FloatOps F] (main_arg0 : FVec F S4x4096x4x2x64 .f32) (main_arg1 : FVec F S4x4096x2x4x64 .f32) (main_arg2 : FVec F S4x4096x4x2x64 .f32) (main_arg3 : FVec F S4x4096x4x128 .f32) (main_arg4 : FVec F S4x4096x2x64 .f32) (main_arg5 : FVec F S4x4096x2x64 .f32) (main_arg6 : FVec F S4x256x4x2x64 .f32) (main_arg7 : FVec F S4x256x4x128 .f32) (main_arg8 : FVec F S4x256x2x64 .f32) (main_arg9 : FVec F S4x256x2x64 .f32) (main_arg10 : FVec F S4x64 .f32) (main_arg11 : FVec F S128 .f32) : IVec S4x4096x4x2x64 1 × IVec S4x4096x2x4x64 1 × IVec S4x4096x4x2x64 1 × IVec S4x4096x4x128 1 × IVec S4x4096x2x64 1 × IVec S4x4096x2x64 1 × IVec S4x256x4x2x64 1 × IVec S4x256x4x128 1 × IVec S4x256x2x64 1 × IVec S4x256x2x64 1 × IVec S4x64 1 :=
  let main_v0 : FVec F S4x4096x4x2x64 .f32 := Host.absf main_arg0
  let main_cst : FVec F S_ .f32 := constant S_ .f32 0x7F800000#32
  let main_v1 : FVec F S4x4096x4x2x64 .f32 := broadcastInDim S4x4096x4x2x64 ![] bcast_S_S4x4096x4x2x64 main_cst
  let main_v2 : IVec S4x4096x4x2x64 1 := cmpf .olt main_v0 main_v1
  let main_v3 : FVec F S4x4096x2x4x64 .f32 := Host.absf main_arg1
  let main_cst_0 : FVec F S_ .f32 := constant S_ .f32 0x7F800000#32
  let main_v4 : FVec F S4x4096x2x4x64 .f32 := broadcastInDim S4x4096x2x4x64 ![] bcast_S_S4x4096x2x4x64 main_cst_0
  let main_v5 : IVec S4x4096x2x4x64 1 := cmpf .olt main_v3 main_v4
  let main_v6 : FVec F S4x4096x4x2x64 .f32 := Host.absf main_arg2
  let main_cst_1 : FVec F S_ .f32 := constant S_ .f32 0x7F800000#32
  let main_v7 : FVec F S4x4096x4x2x64 .f32 := broadcastInDim S4x4096x4x2x64 ![] bcast_S_S4x4096x4x2x64 main_cst_1
  let main_v8 : IVec S4x4096x4x2x64 1 := cmpf .olt main_v6 main_v7
  let main_v9 : FVec F S4x4096x4x128 .f32 := Host.absf main_arg3
  let main_cst_2 : FVec F S_ .f32 := constant S_ .f32 0x7F800000#32
  let main_v10 : FVec F S4x4096x4x128 .f32 := broadcastInDim S4x4096x4x128 ![] bcast_S_S4x4096x4x128 main_cst_2
  let main_v11 : IVec S4x4096x4x128 1 := cmpf .olt main_v9 main_v10
  let main_v12 : FVec F S4x4096x2x64 .f32 := Host.absf main_arg4
  let main_cst_3 : FVec F S_ .f32 := constant S_ .f32 0x7F800000#32
  let main_v13 : FVec F S4x4096x2x64 .f32 := broadcastInDim S4x4096x2x64 ![] bcast_S_S4x4096x2x64 main_cst_3
  let main_v14 : IVec S4x4096x2x64 1 := cmpf .olt main_v12 main_v13
  let main_v15 : FVec F S4x4096x2x64 .f32 := Host.absf main_arg5
  let main_cst_4 : FVec F S_ .f32 := constant S_ .f32 0x7F800000#32
  let main_v16 : FVec F S4x4096x2x64 .f32 := broadcastInDim S4x4096x2x64 ![] bcast_S_S4x4096x2x64 main_cst_4
  let main_v17 : IVec S4x4096x2x64 1 := cmpf .olt main_v15 main_v16
  fn_part1 (F := F) main_arg6 main_arg7 main_arg8 main_arg9 main_arg10 main_v2 main_v5 main_v8 main_v11 main_v14 main_v17
-- ==== Kernel.lean ====
abbrev S4x4096x4x2x64 : Shape := ⟨5, ![4, 4096, 4, 2, 64]⟩
abbrev S4x4096x2x4x64 : Shape := ⟨5, ![4, 4096, 2, 4, 64]⟩
abbrev S4x4096x4x128 : Shape := ⟨4, ![4, 4096, 4, 128]⟩
abbrev S4x4096x2x64 : Shape := ⟨4, ![4, 4096, 2, 64]⟩
abbrev S4x256x4x2x64 : Shape := ⟨5, ![4, 256, 4, 2, 64]⟩
abbrev S4x256x4x128 : Shape := ⟨4, ![4, 256, 4, 128]⟩
abbrev S4x256x2x64 : Shape := ⟨4, ![4, 256, 2, 64]⟩
abbrev S4x64 : Shape := ⟨2, ![4, 64]⟩
abbrev S128 : Shape := ⟨1, ![128]⟩
abbrev S4x4096x512 : Shape := ⟨3, ![4, 4096, 512]⟩
abbrev S4x256x512 : Shape := ⟨3, ![4, 256, 512]⟩
abbrev S4x4352x512 : Shape := ⟨3, ![4, 4352, 512]⟩
abbrev S4x512x4352 : Shape := ⟨3, ![4, 512, 4352]⟩
abbrev S4x4096x128 : Shape := ⟨3, ![4, 4096, 128]⟩
abbrev S4x256x128 : Shape := ⟨3, ![4, 256, 128]⟩
abbrev S4x4352x128 : Shape := ⟨3, ![4, 4352, 128]⟩
abbrev S4x128x4352 : Shape := ⟨3, ![4, 128, 4352]⟩
abbrev S1x128 : Shape := ⟨2, ![1, 128]⟩
abbrev S4x4096x384 : Shape := ⟨3, ![4, 4096, 384]⟩
abbrev S1x256x512 : Shape := ⟨3, ![1, 256, 512]⟩
abbrev S1x512x4352 : Shape := ⟨3, ![1, 512, 4352]⟩
abbrev S1x4352x512 : Shape := ⟨3, ![1, 4352, 512]⟩
abbrev S1x128x4352 : Shape := ⟨3, ![1, 128, 4352]⟩
abbrev S1x4352x128 : Shape := ⟨3, ![1, 4352, 128]⟩
abbrev S1x256x384 : Shape := ⟨3, ![1, 256, 384]⟩
abbrev S1x4096x128 : Shape := ⟨3, ![1, 4096, 128]⟩
abbrev S4x4352x256 : Shape := ⟨3, ![4, 4352, 256]⟩
abbrev S4352x256 : Shape := ⟨2, ![4352, 256]⟩
abbrev S256x4352 : Shape := ⟨2, ![256, 4352]⟩
abbrev S256x128 : Shape := ⟨2, ![256, 128]⟩
abbrev S4352x128 : Shape := ⟨2, ![4352, 128]⟩
abbrev S1x64 : Shape := ⟨2, ![1, 64]⟩
abbrev S1 : Shape := ⟨1, ![1]⟩
abbrev S1x1 : Shape := ⟨2, ![1, 1]⟩
abbrev S256 : Shape := ⟨1, ![256]⟩
abbrev S256x1 : Shape := ⟨2, ![256, 1]⟩
abbrev S1x4352x256 : Shape := ⟨3, ![1, 4352, 256]⟩
abbrev S256x256 : Shape := ⟨2, ![256, 256]⟩
abbrev S1x256x128 : Shape := ⟨3, ![1, 256, 128]⟩
abbrev S1x256x64 : Shape := ⟨3, ![1, 256, 64]⟩
abbrev S256x64 : Shape := ⟨2, ![256, 64]⟩
abbrev S1x64x4352 : Shape := ⟨3, ![1, 64, 4352]⟩
abbrev S64x4352 : Shape := ⟨2, ![64, 4352]⟩

abbrev nBuf : Space → Nat
  | .hbm => 36
  | .vmem => 24
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x2x4x64, .f32⟩
  | .hbm, ⟨2, _⟩ => ⟨S4x4096x4x2x64, .f32⟩
  | .hbm, ⟨3, _⟩ => ⟨S4x4096x4x128, .f32⟩
  | .hbm, ⟨4, _⟩ => ⟨S4x4096x2x64, .f32⟩
  | .hbm, ⟨5, _⟩ => ⟨S4x4096x2x64, .f32⟩
  | .hbm, ⟨6, _⟩ => ⟨S4x256x4x2x64, .f32⟩
  | .hbm, ⟨7, _⟩ => ⟨S4x256x4x128, .f32⟩
  | .hbm, ⟨8, _⟩ => ⟨S4x256x2x64, .f32⟩
  | .hbm, ⟨9, _⟩ => ⟨S4x256x2x64, .f32⟩
  | .hbm, ⟨10, _⟩ => ⟨S4x64, .f32⟩
  | .hbm, ⟨11, _⟩ => ⟨S128, .f32⟩
  | .hbm, ⟨12, _⟩ => ⟨S4x4096x512, .f32⟩
  | .hbm, ⟨13, _⟩ => ⟨S4x256x512, .f32⟩
  | .hbm, ⟨14, _⟩ => ⟨S4x4352x512, .f32⟩
  | .hbm, ⟨15, _⟩ => ⟨S4x4352x512, .bf16⟩
  | .hbm, ⟨16, _⟩ => ⟨S4x512x4352, .bf16⟩
  | .hbm, ⟨17, _⟩ => ⟨S4x4096x128, .f32⟩
  | .hbm, ⟨18, _⟩ => ⟨S4x256x128, .f32⟩
  | .hbm, ⟨19, _⟩ => ⟨S4x4352x128, .f32⟩
  | .hbm, ⟨20, _⟩ => ⟨S4x4352x128, .bf16⟩
  | .hbm, ⟨21, _⟩ => ⟨S4x128x4352, .bf16⟩
  | .hbm, ⟨22, _⟩ => ⟨S4x4096x512, .f32⟩
  | .hbm, ⟨23, _⟩ => ⟨S4x256x512, .f32⟩
  | .hbm, ⟨24, _⟩ => ⟨S4x4352x512, .f32⟩
  | .hbm, ⟨25, _⟩ => ⟨S4x4352x512, .bf16⟩
  | .hbm, ⟨26, _⟩ => ⟨S4x4096x128, .f32⟩
  | .hbm, ⟨27, _⟩ => ⟨S4x256x128, .f32⟩
  | .hbm, ⟨28, _⟩ => ⟨S4x4352x128, .f32⟩
  | .hbm, ⟨29, _⟩ => ⟨S4x4352x128, .bf16⟩
  | .hbm, ⟨30, _⟩ => ⟨S4x4096x512, .f32⟩
  | .hbm, ⟨31, _⟩ => ⟨S4x4096x512, .f32⟩
  | .hbm, ⟨32, _⟩ => ⟨S1x128, .f32⟩
  | .hbm, ⟨33, _⟩ => ⟨S4x4096x384, .bf16⟩
  | .hbm, ⟨34, _⟩ => ⟨S4x4096x512, .bf16⟩
  | .hbm, ⟨35, _⟩ => ⟨S4x4096x128, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x512x4352, .bf16⟩
  | .local _ .vmem, ⟨5, _⟩ => ⟨S1x512x4352, .bf16⟩
  | .local _ .vmem, ⟨6, _⟩ => ⟨S1x4352x512, .bf16⟩
  | .local _ .vmem, ⟨7, _⟩ => ⟨S1x4352x512, .bf16⟩
  | .local _ .vmem, ⟨8, _⟩ => ⟨S1x128x4352, .bf16⟩
  | .local _ .vmem, ⟨9, _⟩ => ⟨S1x128x4352, .bf16⟩
  | .local _ .vmem, ⟨10, _⟩ => ⟨S1x4352x128, .bf16⟩
  | .local _ .vmem, ⟨11, _⟩ => ⟨S1x4352x128, .bf16⟩
  | .local _ .vmem, ⟨12, _⟩ => ⟨S4x64, .f32⟩
  | .local _ .vmem, ⟨13, _⟩ => ⟨S1x128, .f32⟩
  | .local _ .vmem, ⟨14, _⟩ => ⟨S1x256x384, .bf16⟩
  | .local _ .vmem, ⟨15, _⟩ => ⟨S1x256x384, .bf16⟩
  | .local _ .vmem, ⟨16, _⟩ => ⟨S1x256x512, .bf16⟩
  | .local _ .vmem, ⟨17, _⟩ => ⟨S1x256x512, .bf16⟩
  | .local _ .vmem, ⟨18, _⟩ => ⟨S1x4096x128, .bf16⟩
  | .local _ .vmem, ⟨19, _⟩ => ⟨S1x4096x128, .bf16⟩
  | .local _ .vmem, ⟨20, _⟩ => ⟨S4x4352x256, .bf16⟩
  | .local _ .vmem, ⟨21, _⟩ => ⟨S4352x256, .bf16⟩
  | .local _ .vmem, ⟨22, _⟩ => ⟨S256x4352, .f32⟩
  | .local _ .vmem, ⟨23, _⟩ => ⟨S256x128, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1_i32 : BitVec 32 := 1#32
  let v19 : BitVec 32 := Scalar.subi arg1 c1_i32
  let c0_i32_4 : BitVec 32 := 0#32
  let v20 : BitVec 32 := Scalar.maxsi v19 c0_i32_4
  let c256_i32 : BitVec 32 := 256#32
  let v21 : BitVec 32 := Scalar.muli v20 c256_i32
  v21
def k0_off1 (i : grid0.Coords) : Fin 3 → Nat :=
  let c0_19 : Index := 0#32
  let arg1 : BitVec 32 := BitVec.ofNat 32 (i 1).val
  let c1_i32 : BitVec 32 := 1#32
  let v19 : BitVec 32 := Scalar.subi arg1 c1_i32
  let c0_i32_4 : BitVec 32 := 0#32
  let v20 : BitVec 32 := Scalar.maxsi v19 c0_i32_4
  let c256_i32 : BitVec 32 := 256#32
  let v21 : BitVec 32 := Scalar.muli v20 c256_i32
  let v22 : BitVec 32 := v21
  let v57 : Index := Scalar.indexCast v22
  let c0_20 : Index := 0#32
  ![0, v57.toNat, 0]
def k0_cond2 (i : grid0.Coords) : BitVec 1 :=
  let arg1 : BitVec 32 := BitVec.ofNat 32 (i 1).val
  let c15_i32 : BitVec 32 := 15#32
  let v469 : BitVec 1 := Scalar.cmpi .eq arg1 c15_i32
  let v470 : BitVec 32 := Scalar.extui v469
  let c0_i32_257 : BitVec 32 := 0#32
  let v471 : BitVec 1 := Scalar.cmpi .ne v470 c0_i32_257
  v471

def k0_mult2 (i : grid0.Coords) : BitVec 32 :=
  let arg1 : BitVec 32 := BitVec.ofNat 32 (i 1).val
  let c256_i32_258 : BitVec 32 := 256#32
  let v472 : BitVec 32 := Scalar.muli arg1 c256_i32_258
  v472
def k0_off2 (i : grid0.Coords) : Fin 3 → Nat :=
  let c0_274 : Index := 0#32
  let arg1 : BitVec 32 := BitVec.ofNat 32 (i 1).val
  let c256_i32_258 : BitVec 32 := 256#32
  let v472 : BitVec 32 := Scalar.muli arg1 c256_i32_258
  let v473 : BitVec 32 := v472
  let v508 : Index := Scalar.indexCast v473
  let c0_275 : Index := 0#32
  ![0, v508.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4352x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "q_prescale" => some (((8 * (Real.log 2))⁻¹ : ℝ) : EReal)
  | _ => none
-- ==== ReferenceIdeal.lean ====
abbrev S4x4096x4x2x64 : Shape := ⟨5, ![4, 4096, 4, 2, 64]⟩
abbrev S4x4096x2x4x64 : Shape := ⟨5, ![4, 4096, 2, 4, 64]⟩
abbrev S4x4096x4x128 : Shape := ⟨4, ![4, 4096, 4, 128]⟩
abbrev S4x4096x2x64 : Shape := ⟨4, ![4, 4096, 2, 64]⟩
abbrev S4x256x4x2x64 : Shape := ⟨5, ![4, 256, 4, 2, 64]⟩
abbrev S4x256x4x128 : Shape := ⟨4, ![4, 256, 4, 128]⟩
abbrev S4x256x2x64 : Shape := ⟨4, ![4, 256, 2, 64]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S4x4352x4x2x64 : Shape := ⟨5, ![4, 4352, 4, 2, 64]⟩
abbrev S4x4352x4x128 : Shape := ⟨4, ![4, 4352, 4, 128]⟩
abbrev S4x4352x2x64 : Shape := ⟨4, ![4, 4352, 2, 64]⟩
abbrev S4x4x2x4096x4352 : Shape := ⟨5, ![4, 4, 2, 4096, 4352]⟩
abbrev S4x4x2x4096 : Shape := ⟨4, ![4, 4, 2, 4096]⟩
abbrev S4x4x2x4096x1 : Shape := ⟨5, ![4, 4, 2, 4096, 1]⟩
abbrev S4x4x1x4096x4352 : Shape := ⟨5, ![4, 4, 1, 4096, 4352]⟩
abbrev S4x4x4096x4352 : Shape := ⟨4, ![4, 4, 4096, 4352]⟩
abbrev S4x4x128x4096 : Shape := ⟨4, ![4, 4, 128, 4096]⟩
abbrev S4x2x4352x4096x4 : Shape := ⟨5, ![4, 2, 4352, 4096, 4]⟩
abbrev S4x2x4x4096x4352 : Shape := ⟨5, ![4, 2, 4, 4096, 4352]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x512 : Shape := ⟨3, ![4, 4096, 512]⟩
abbrev S4x4096x384 : Shape := ⟨3, ![4, 4096, 384]⟩
abbrev S4x4096x128 : Shape := ⟨3, ![4, 4096, 128]⟩

abbrev nBuf : Space → Nat
  | .hbm => 109
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x2x4x64, .f32⟩
  | .hbm, ⟨2, _⟩ => ⟨S4x4096x4x2x64, .f32⟩
  | .hbm, ⟨3, _⟩ => ⟨S4x4096x4x128, .f32⟩
  | .hbm, ⟨4, _⟩ => ⟨S4x4096x2x64, .f32⟩
  | .hbm, ⟨5, _⟩ => ⟨S4x4096x2x64, .f32⟩
  | .hbm, ⟨6, _⟩ => ⟨S4x256x4x2x64, .f32⟩
  | .hbm, ⟨7, _⟩ => ⟨S4x256x4x128, .f32⟩
  | .hbm, ⟨8, _⟩ => ⟨S4x256x2x64, .f32⟩
  | .hbm, ⟨9, _⟩ => ⟨S4x256x2x64, .f32⟩
  | .hbm, ⟨10, _⟩ => ⟨S4x64, .f32⟩
  | .hbm, ⟨11, _⟩ => ⟨S128, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4352x4x2x64, .f32⟩
  | .hbm, ⟨32, _⟩ => ⟨S4x4352x4x128, .f32⟩
  | .hbm, ⟨33, _⟩ => ⟨S4x4352x2x64, .f32⟩
  | .hbm, ⟨34, _⟩ => ⟨S4x4352x2x64, .f32⟩
  | .hbm, ⟨35, _⟩ => ⟨S4x4x2x4096x4352, .f32⟩
  | .hbm, ⟨36, _⟩ => ⟨S_, .f32⟩
  | .hbm, ⟨37, _⟩ => ⟨S4x4x2x4096x4352, .f32⟩
  | .hbm, ⟨38, _⟩ => ⟨S4x4x2x4096x4352, .f32⟩
  | .hbm, ⟨39, _⟩ => ⟨S_, .f32⟩
  | .hbm, ⟨40, _⟩ => ⟨S4x4x2x4096, .f32⟩
  | .hbm, ⟨41, _⟩ => ⟨S_, .f32⟩
  | .hbm, ⟨42, _⟩ => ⟨S4x4x2x4096, .f32⟩
  | .hbm, ⟨43, _⟩ => ⟨S4x4x2x4096, .f32⟩
  | .hbm, ⟨44, _⟩ => ⟨S4x4x2x4096x1, .f32⟩
  | .hbm, ⟨45, _⟩ => ⟨S4x4x2x4096x4352, .f32⟩
  | .hbm, ⟨46, _⟩ => ⟨S4x4x2x4096x4352, .f32⟩
  | .hbm, ⟨47, _⟩ => ⟨S4x4x2x4096x4352, .f32⟩
  | .hbm, ⟨48, _⟩ => ⟨S_, .f32⟩
  | .hbm, ⟨49, _⟩ => ⟨S4x4x2x4096, .f32⟩
  | .hbm, ⟨50, _⟩ => ⟨S4x4x2x4096x1, .f32⟩
  | .hbm, ⟨51, _⟩ => ⟨S4x4x2x4096x4352, .f32⟩
  | .hbm, ⟨52, _⟩ => ⟨S4x4x2x4096x4352, .f32⟩
  | .hbm, ⟨53, _⟩ => ⟨S4x4x1x4096x4352, .f32⟩
  | .hbm, ⟨54, _⟩ => ⟨S4x4x4096x4352, .f32⟩
  | .hbm, ⟨55, _⟩ => ⟨S4x4x1x4096x4352, .f32⟩
  | .hbm, ⟨56, _⟩ => ⟨S4x4x4096x4352, .f32⟩
  | .hbm, ⟨57, _⟩ => ⟨S4x4x4096x4352, .f32⟩
  | .hbm, ⟨58, _⟩ => ⟨S4x4x4096x4352, .f32⟩
  | .hbm, ⟨59, _⟩ => ⟨S4x4x4096x4352, .f32⟩
  | .hbm, ⟨60, _⟩ => ⟨S4x4x128x4096, .f32⟩
  | .hbm, ⟨61, _⟩ => ⟨S4x4096x4x128, .f32⟩
  | .hbm, ⟨62, _⟩ => ⟨S4x2x4352x4096x4, .f32⟩
  | .hbm, ⟨63, _⟩ => ⟨S4x2x4x4096x4352, .f32⟩
  | .hbm, ⟨64, _⟩ => ⟨S_, .f32⟩
  | .hbm, ⟨65, _⟩ => ⟨S4x2x4x4096x4352, .f32⟩
  | .hbm, ⟨66, _⟩ => ⟨S4x2x4x4096x4352, .f32⟩
  | .hbm, ⟨67, _⟩ => ⟨S_, .f32⟩
  | .hbm, ⟨68, _⟩ => ⟨S4x2x4x4096, .f32⟩
  | .hbm, ⟨69, _⟩ => ⟨S_, .f32⟩
  | .hbm, ⟨70, _⟩ => ⟨S4x2x4x4096, .f32⟩
  | .hbm, ⟨71, _⟩ => ⟨S4x2x4x4096, .f32⟩
  | .hbm, ⟨72, _⟩ => ⟨S4x2x4x4096x1, .f32⟩
  | .hbm, ⟨73, _⟩ => ⟨S4x2x4x4096x4352, .f32⟩
  | .hbm, ⟨74, _⟩ => ⟨S4x2x4x4096x4352, .f32⟩
  | .hbm, ⟨75, _⟩ => ⟨S4x2x4x4096x4352, .f32⟩
  | .hbm, ⟨76, _⟩ => ⟨S_, .f32⟩
  | .hbm, ⟨77, _⟩ => ⟨S4x2x4x4096, .f32⟩
  | .hbm, ⟨78, _⟩ => ⟨S4x2x4x4096x1, .f32⟩
  | .hbm, ⟨79, _⟩ => ⟨S4x2x4x4096x4352, .f32⟩
  | .hbm, ⟨80, _⟩ => ⟨S4x2x4x4096x4352, .f32⟩
  | .hbm, ⟨81, _⟩ => ⟨S4x2x64x4x4096, .f32⟩
  | .hbm, ⟨82, _⟩ => ⟨S4x4096x2x4x64, .f32⟩
  | .hbm, ⟨83, _⟩ => ⟨S4x4096x4x128, .f32⟩
  | .hbm, ⟨84, _⟩ => ⟨S_, .f32⟩
  | .hbm, ⟨85, _⟩ => ⟨S4x4096x4, .f32⟩
  | .hbm, ⟨86, _⟩ => ⟨S4x4096x4x1, .f32⟩
  | .hbm, ⟨87, _⟩ => ⟨S_, .f32⟩
  | .hbm, ⟨88, _⟩ => ⟨S4x4096x4x1, .f32⟩
  | .hbm, ⟨89, _⟩ => ⟨S4x4096x4x1, .f32⟩
  | .hbm, ⟨90, _⟩ => ⟨S_, .f32⟩
  | .hbm, ⟨91, _⟩ => ⟨S4x4096x4x1, .f32⟩
  | .hbm, ⟨92, _⟩ => ⟨S4x4096x4x1, .f32⟩
  | .hbm, ⟨93, _⟩ => ⟨S4x4096x4x1, .f32⟩
  | .hbm, ⟨94, _⟩ => ⟨S4x4096x4x128, .f32⟩
  | .hbm, ⟨95, _⟩ => ⟨S4x4096x4x128, .f32⟩
  | .hbm, ⟨96, _⟩ => ⟨S1x1x1x128, .f32⟩
  | .hbm, ⟨97, _⟩ => ⟨S4x4096x4x128, .f32⟩
  | .hbm, ⟨98, _⟩ => ⟨S4x4096x4x128, .f32⟩
  | .hbm, ⟨99, _⟩ => ⟨S_, .f32⟩
  | .hbm, ⟨100, _⟩ => ⟨S4x4096x4x128, .f32⟩
  | .hbm, ⟨101, _⟩ => ⟨S4x4096x4x128, .f32⟩
  | .hbm, ⟨102, _⟩ => ⟨S4x4096x512, .f32⟩
  | .hbm, ⟨103, _⟩ => ⟨S4x4096x512, .f32⟩
  | .hbm, ⟨104, _⟩ => ⟨S4x4096x384, .f32⟩
  | .hbm, ⟨105, _⟩ => ⟨S4x4096x384, .bf16⟩
  | .hbm, ⟨106, _⟩ => ⟨S4x4096x128, .f32⟩
  | .hbm, ⟨107, _⟩ => ⟨S4x4096x128, .bf16⟩
  | .hbm, ⟨108, _⟩ => ⟨S4x4096x512, .bf16⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x6144 : Shape := ⟨3, ![4, 1, 6144]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x4096x1024 : Shape := ⟨3, ![4, 4096, 1024]⟩
abbrev S4x1x6144 : Shape := ⟨3, ![4, 1, 6144]⟩
abbrev S1024 : Shape := ⟨1, ![1024]⟩
abbrev S1024x4096 : Shape := ⟨2, ![1024, 4096]⟩
abbrev S4096x1024 : Shape := ⟨2, ![4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1x6144 : Shape := ⟨3, ![4, 1, 6144]⟩
abbrev S1024 : Shape := ⟨1, ![1024]⟩
abbrev S1024x4096 : Shape := ⟨2, ![1024, 4096]⟩
abbrev S4x4096x384 : Shape := ⟨3, ![4, 4096, 384]⟩
abbrev S4x4096x128 : Shape := ⟨3, ![4, 4096, 128]⟩
abbrev S4x4096x512 : Shape := ⟨3, ![4, 4096, 512]⟩
abbrev S384x1024 : Shape := ⟨2, ![384, 1024]⟩
abbrev S512x1024 : Shape := ⟨2, ![512, 1024]⟩
abbrev S1024x1024 : Shape := ⟨2, ![1024, 1024]⟩
abbrev S1x1024 : Shape := ⟨2, ![1, 1024]⟩
abbrev S1x512x1024 : Shape := ⟨3, ![1, 512, 1024]⟩
abbrev S1x1x1024 : Shape := ⟨3, ![1, 1, 1024]⟩
abbrev S1x512x384 : Shape := ⟨3, ![1, 512, 384]⟩
abbrev S1x512x128 : Shape := ⟨3, ![1, 512, 128]⟩
abbrev S1x512x512 : Shape := ⟨3, ![1, 512, 512]⟩
abbrev S512 : Shape := ⟨1, ![512]⟩
abbrev S512x1 : Shape := ⟨2, ![512, 1]⟩
abbrev S512x384 : Shape := ⟨2, ![512, 384]⟩
abbrev S512x128 : Shape := ⟨2, ![512, 128]⟩
abbrev S512x512 : Shape := ⟨2, ![512, 512]⟩

abbrev nBuf : Space → Nat
  | .hbm => 24
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x4096, .f32⟩
  | .hbm, ⟨4, _⟩ => ⟨S4x4096x384, .bf16⟩
  | .hbm, ⟨5, _⟩ => ⟨S4x4096x384, .bf16⟩
  | .hbm, ⟨6, _⟩ => ⟨S4x4096x128, .bf16⟩
  | .hbm, ⟨7, _⟩ => ⟨S4x4096x512, .bf16⟩
  | .hbm, ⟨8, _⟩ => ⟨S4x4096x384, .bf16⟩
  | .hbm, ⟨9, _⟩ => ⟨S384x1024, .f32⟩
  | .hbm, ⟨10, _⟩ => ⟨S512x1024, .f32⟩
  | .hbm, ⟨11, _⟩ => ⟨S512x1024, .f32⟩
  | .hbm, ⟨12, _⟩ => ⟨S384x1024, .f32⟩
  | .hbm, ⟨13, _⟩ => ⟨S1024x1024, .f32⟩
  | .hbm, ⟨14, _⟩ => ⟨S1024, .f32⟩
  | .hbm, ⟨15, _⟩ => ⟨S1x1024, .f32⟩
  | .hbm, ⟨16, _⟩ => ⟨S1024x4096, .bf16⟩
  | .hbm, ⟨17, _⟩ => ⟨S384x1024, .bf16⟩
  | .hbm, ⟨18, _⟩ => ⟨S512x1024, .bf16⟩
  | .hbm, ⟨19, _⟩ => ⟨S512x1024, .bf16⟩
  | .hbm, ⟨20, _⟩ => ⟨S384x1024, .bf16⟩
  | .hbm, ⟨21, _⟩ => ⟨S1024x1024, .bf16⟩
  | .hbm, ⟨22, _⟩ => ⟨S1x1024, .f32⟩
  | .hbm, ⟨23, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x4096, .bf16⟩
  | .local _ .vmem, ⟨10, _⟩ => ⟨S1x512x384, .bf16⟩
  | .local _ .vmem, ⟨11, _⟩ => ⟨S1x512x384, .bf16⟩
  | .local _ .vmem, ⟨12, _⟩ => ⟨S1x512x384, .bf16⟩
  | .local _ .vmem, ⟨13, _⟩ => ⟨S1x512x384, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x384, .bf16⟩
  | .local _ .vmem, ⟨19, _⟩ => ⟨S1x512x384, .bf16⟩
  | .local _ .vmem, ⟨20, _⟩ => ⟨S384x1024, .bf16⟩
  | .local _ .vmem, ⟨21, _⟩ => ⟨S512x1024, .bf16⟩
  | .local _ .vmem, ⟨22, _⟩ => ⟨S512x1024, .bf16⟩
  | .local _ .vmem, ⟨23, _⟩ => ⟨S384x1024, .bf16⟩
  | .local _ .vmem, ⟨24, _⟩ => ⟨S1024x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x4096x1024 : Shape := ⟨3, ![4, 4096, 1024]⟩
abbrev S4x1x6144 : Shape := ⟨3, ![4, 1, 6144]⟩
abbrev S1024 : Shape := ⟨1, ![1024]⟩
abbrev S1024x4096 : Shape := ⟨2, ![1024, 4096]⟩
abbrev S4x4096x384 : Shape := ⟨3, ![4, 4096, 384]⟩
abbrev S4x4096x128 : Shape := ⟨3, ![4, 4096, 128]⟩
abbrev S4x4096x512 : Shape := ⟨3, ![4, 4096, 512]⟩
abbrev S384x1024 : Shape := ⟨2, ![384, 1024]⟩
abbrev S512x1024 : Shape := ⟨2, ![512, 1024]⟩
abbrev S1024x1024 : Shape := ⟨2, ![1024, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 93
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x4096, .f32⟩
  | .hbm, ⟨4, _⟩ => ⟨S4x4096x384, .bf16⟩
  | .hbm, ⟨5, _⟩ => ⟨S4x4096x384, .bf16⟩
  | .hbm, ⟨6, _⟩ => ⟨S4x4096x128, .bf16⟩
  | .hbm, ⟨7, _⟩ => ⟨S4x4096x512, .bf16⟩
  | .hbm, ⟨8, _⟩ => ⟨S4x4096x384, .bf16⟩
  | .hbm, ⟨9, _⟩ => ⟨S384x1024, .f32⟩
  | .hbm, ⟨10, _⟩ => ⟨S512x1024, .f32⟩
  | .hbm, ⟨11, _⟩ => ⟨S512x1024, .f32⟩
  | .hbm, ⟨12, _⟩ => ⟨S384x1024, .f32⟩
  | .hbm, ⟨13, _⟩ => ⟨S1024x1024, .f32⟩
  | .hbm, ⟨14, _⟩ => ⟨S1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x384, .f32⟩
  | .hbm, ⟨45, _⟩ => ⟨S4x4096x512, .f32⟩
  | .hbm, ⟨46, _⟩ => ⟨S4x4096x384, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x512, .bf16⟩
  | .hbm, ⟨61, _⟩ => ⟨S4x4096x512, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x1024, .f32⟩
  | .hbm, ⟨86, _⟩ => ⟨S4x4096x1024, .f32⟩
  | .hbm, ⟨87, _⟩ => ⟨S1x1x1024, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Proof.Point.lean ====
/-
  The points of the attention's grid (4 batches × 16 tiles of 256 query rows): which tile a point is in, where it stores the last head's
  rows, and the buffers the body is called with there.
-/
module

public import proofs.«01_k».proof.Proof.Gen.KernelIdeal.Frame
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

/-- A batch's first tile: the body first fills the scratch buffers. -/
abbrev First (i : grid0.Coords) : Prop := (Scalar.cmpi .ne (Scalar.extui (Scalar.cmpi .eq (BitVec.ofNat 32 (i 1).val) 0#32)) 0#32) = 1#1

theorem first_iff (t : Fin cfg0.N) : First (grid0.coords t) ↔ t.val % 16 = 0 := by
  have ht : t.val < 64 := Nat.lt_of_lt_of_eq t.isLt N_0
  have e1 : (grid0.coords t 1).val = t.val / 1 % 16 := Pipeline.Grid.coords_val t 1 (by decide) rfl
  simp only [First, e1]
  word_cmp

/-- A batch's last tile: the body also finishes the last head's rows of this very tile. -/
abbrev Last (i : grid0.Coords) : Prop := k0_cond2 i = 1#1

theorem last_iff (t : Fin cfg0.N) : Last (grid0.coords t) ↔ t.val % 16 = 15 := by
  have ht : t.val < 64 := Nat.lt_of_lt_of_eq t.isLt N_0
  have e1 : (grid0.coords t 1).val = t.val / 1 % 16 := Pipeline.Grid.coords_val t 1 (by decide) rfl
  simp only [Last, k0_cond2, e1]
  word_cmp

/-- The rows of the previous tile (tile 0's own at the first): where a point stores the last head. -/
theorem off1_eq : ∀ t : Fin grid0.N, k0_off1 (grid0.coords t) = ![0, 256 * (t.val % 16 - 1), 0] := by decide +kernel

/-- The rows of the point's own tile. -/
theorem off2_eq : ∀ t : Fin grid0.N, k0_off2 (grid0.coords t) = ![0, 256 * (t.val % 16), 0] := by decide +kernel

abbrev st0 (t : Fin cfg0.N) : Memref sig .tc .vmem S1x256x512 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S1x256x512 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x512x4352 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S1x4352x512 .bf16 := win0_3.stage (cfg0.slots t 3)
abbrev hst3 (t : Fin cfg0.N) : (st3 t).IsWhole := hstage0_3 ((cfg0.slots t 3).cast nbuf0_3)
abbrev st4 (t : Fin cfg0.N) : Memref sig .tc .vmem S1x128x4352 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S1x4352x128 .bf16 := win0_5.stage (cfg0.slots t 5)
abbrev hst5 (t : Fin cfg0.N) : (st5 t).IsWhole := hstage0_5 ((cfg0.slots t 5).cast nbuf0_5)
abbrev st6 (t : Fin cfg0.N) : Memref sig .tc .vmem S4x64 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S1x128 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S1x256x384 .bf16 := win0_8.stage (cfg0.slots t 8)
abbrev hst8 (t : Fin cfg0.N) : (st8 t).IsWhole := hstage0_8 ((cfg0.slots t 8).cast nbuf0_8)
abbrev st9 (t : Fin cfg0.N) : Memref sig .tc .vmem S1x256x512 .bf16 := win0_9.stage (cfg0.slots t 9)
abbrev hst9 (t : Fin cfg0.N) : (st9 t).IsWhole := hstage0_9 ((cfg0.slots t 9).cast nbuf0_9)
abbrev st10 (t : Fin cfg0.N) : Memref sig .tc .vmem S1x4096x128 .bf16 := win0_10.stage (cfg0.slots t 10)
abbrev hst10 (t : Fin cfg0.N) : (st10 t).IsWhole := hstage0_10 ((cfg0.slots t 10).cast nbuf0_10)
abbrev vdx : Memref sig .tc .vmem S4x4352x256 .bf16 := Memref.whole cc0_scratch0
abbrev vgx : Memref sig .tc .vmem S4352x256 .bf16 := Memref.whole cc0_scratch1
abbrev sbuf : Memref sig .tc .vmem S256x4352 .f32 := Memref.whole cc0_scratch2
abbrev mbuf : Memref sig .tc .vmem S256x128 .f32 := Memref.whole cc0_scratch3

/-- The kernel's scratch at anything, and the generator's register: the invariant where nothing is carried. -/
theorem ΦA_eq (c : Dev nD) :
    (Pipeline.ΦA spec0 c : sProp 𝕄)
      = iprop(iprop((∃ d, owns (c : Thread nD τ) vdx fullShare d) ∗ (∃ d, owns (c : Thread nD τ) vgx fullShare d) ∗ (∃ d, owns (c : Thread nD τ) sbuf fullShare d) ∗ (∃ d, owns (c : Thread nD τ) mbuf fullShare d)) ∗ (∃ r, prngReg c r)) := by
  unfold Pipeline.ΦA; rw [scopedRest0_eq]; simp only [vdx, vgx, sbuf, mbuf, owns_whole]; try rfl

end Cert.KernelIdeal.Attn

end
-- ==== Proof.RunA.lean ====
/-
  The body's run on arbitrary staging buffers, a batch's first tile: all four scratch buffers are filled.
-/
module

public import proofs.«01_k».proof.Proof.Point

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the body's stores leave, as pieces (last first), in a batch's first tile: all four scratch buffers are filled; with the proof that the body runs from the inputs' buffers at `x·`,
    the last head's buffer at `y` and the scratch at anything, to those pieces written. -/
noncomputable def runA (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    Σ' (L8 : List (View.Piece (Elt F) S1x256x384 .bf16)), Σ' (L9 : List (View.Piece (Elt F) S1x256x512 .bf16)), Σ' (L10 : List (View.Piece (Elt F) S1x4096x128 .bf16)), Σ' (LS0 : List (View.Piece (Elt F) S4x4352x256 .bf16)), Σ' (LS1 : List (View.Piece (Elt F) S4352x256 .bf16)), Σ' (LS2 : List (View.Piece (Elt F) S256x4352 .f32)), { LS3 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread y) L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_attention_eq_skeleton]; unfold cc0_attention_skel
    simp only [k0_part3_eq_skeleton, k0_part2_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexact H10
    isplitl [HS0]; · iexists _; iexact HS0
    isplitl [HS1]; · iexists _; iexact HS1
    isplitl [HS2]; · iexists _; iexact HS2
    iexists _; iexact HS3

end Cert.KernelIdeal.Attn

end
-- ==== Proof.RunB.lean ====
/-
  The body's run on arbitrary staging buffers, a tile that is neither first nor last.
-/
module

public import proofs.«01_k».proof.Proof.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the body's stores leave, as pieces (last first), in a tile that is neither first nor last; with the proof that the body runs from the inputs' buffers at `x·`,
    the last head's buffer at `y` and the scratch at `xs·`, to those pieces written. -/
noncomputable def runB (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    Σ' (L8 : List (View.Piece (Elt F) S1x256x384 .bf16)), Σ' (L9 : List (View.Piece (Elt F) S1x256x512 .bf16)), Σ' (L10 : List (View.Piece (Elt F) S1x4096x128 .bf16)), Σ' (LS2 : List (View.Piece (Elt F) S256x4352 .f32)), { LS3 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread y) L10) ∗ owns (c : Thread nD τ) arg13 fullShare xs0 ∗ owns (c : Thread nD τ) arg14 fullShare xs1 ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_attention_eq_skeleton]; unfold cc0_attention_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0; obtain rfl := harg14.eq_unread hfs1; obtain rfl := harg15.eq_unread hfs2; obtain rfl := harg16.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexact H10
    isplitl [HS0]
    · iexists _; isplitr; · ipureintro; exact harg13.read_unread _
      iexact HS0
    isplitl [HS1]
    · iexists _; isplitr; · ipureintro; exact harg14.read_unread _
      iexact HS1
    isplitl [HS2]; · iexists _; iexact HS2
    iexists _; iexact HS3

end Cert.KernelIdeal.Attn

end
-- ==== Proof.RunC.lean ====
/-
  The body's run on arbitrary staging buffers, a batch's last tile: the last head is finished twice, for the tile before and for this one.
-/
module

public import proofs.«01_k».proof.Proof.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the body's stores leave, as pieces (last first), in a batch's last tile: the last head is finished twice, for the tile before and for this one; with the proof that the body runs from the inputs' buffers at `x·`,
    the last head's buffer at `y` and the scratch at `xs·`, to those pieces written. -/
noncomputable def runC (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    Σ' (L8 : List (View.Piece (Elt F) S1x256x384 .bf16)), Σ' (L9 : List (View.Piece (Elt F) S1x256x512 .bf16)), Σ' (L10 : List (View.Piece (Elt F) S1x4096x128 .bf16)), Σ' (LS2 : List (View.Piece (Elt F) S256x4352 .f32)), { LS3 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread y) L10) ∗ owns (c : Thread nD τ) arg13 fullShare xs0 ∗ owns (c : Thread nD τ) arg14 fullShare xs1 ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_attention_eq_skeleton]; unfold cc0_attention_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0; obtain rfl := harg14.eq_unread hfs1; obtain rfl := harg15.eq_unread hfs2; obtain rfl := harg16.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexact H10
    isplitl [HS0]
    · iexists _; isplitr; · ipureintro; exact harg13.read_unread _
      iexact HS0
    isplitl [HS1]
    · iexists _; isplitr; · ipureintro; exact harg14.read_unread _
      iexact HS1
    isplitl [HS2]; · iexists _; iexact HS2
    iexists _; iexact HS3

end Cert.KernelIdeal.Attn

end
-- ==== Proof.Body.lean ====
/-
  What one point of the attention computes from its blocks, operation by operation: a head's scores, their powers of two against the
  values with the columns of ones, the quotient, the differential combination and its normalisation, the pairs of the grouped queries;
  and the contents that the outputs' and the scratch's buffers are left with.
-/
module

public import proofs.«01_k».proof.Proof.Gen.KernelIdeal.Skeleton
public import Idealize.ShloMosaic.Lib.Pipeline.FrameBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

/-- The scores of a head's 256 queries against its 4352 keys: the queries, scaled, times the transposed keys. -/
def scores (q : Vec F S1x256x64 .f32) (k : Vec F S1x64x4352 .bf16) : FVec F S256x4352 .f32 :=
  matmul dot_S256x64_S64x4352_S256x4352_1_0_0_1_n_n none
    (truncf .bf16 (mulf (shapeCast S256x64 q shapeCasts_S1x256x64_S256x64) (broadcast S256x64 (Named.named κ "q_prescale" 0x3E38AA3B#32))) bitsLt_bf16_f32)
    (shapeCast S64x4352 k shapeCasts_S1x64x4352_S64x4352) (constant S256x4352 .f32 0x00000000#32)

/-- The powers of two of the scores, each row's largest taken off. -/
def powers (s : FVec F S256x4352 .f32) : FVec F S256x4352 .bf16 :=
  truncf .bf16 (exp2 (subf s (broadcastTo S256x4352 (shapeCast S256x1
    (multiReduction .maximumf [1] S256 s 0xFF800000#32 reduces_S256x4352_S256 (.inl rfl) rfl) shapeCasts_S256_S256x1) broadcasts_S256x1_S256x4352))) bitsLt_bf16_f32

/-- The powers against the values and the ones: numerators in columns 0…127, their sums in columns 128…255. -/
def against (s : FVec F S256x4352 .f32) (v : FVec F S4352x256 .bf16) : FVec F S256x256 .f32 :=
  matmul dot_S256x4352_S4352x256_S256x256_1_0_0_1_n_n none (powers s) v (constant S256x256 .f32 0x00000000#32)

/-- Numerators over sums. -/
def quot (p : FVec F S256x256 .f32) : FVec F S256x128 .f32 :=
  divf (extractStridedSlice S256x128 ![0, 0] p slices_S256x256_o0_0_S256x128) (extractStridedSlice S256x128 ![0, 128] p slices_S256x256_o0_128_S256x128)

/-- One softmax against its values. -/
abbrev attend (s : FVec F S256x4352 .f32) (v : FVec F S4352x256 .bf16) : FVec F S256x128 .f32 := quot (against s v)

/-- A slab of the stacked values as a matrix. -/
abbrev slab (v : Vec F S1x4352x256 .bf16) : FVec F S4352x256 .bf16 := shapeCast S4352x256 v shapeCasts_S1x4352x256_S4352x256

/-- The first softmax's result less λ times the second's. -/
def lessLam (lam : FVec F S1x1 .f32) (m0 m1 : FVec F S256x128 .f32) : FVec F S256x128 .f32 :=
  subf m0 (mulf (broadcastTo S256x128 lam broadcasts_S1x1_S256x128) m1)

/-- The differential head's 256 rows as stored. -/
abbrev diffHead (lam : FVec F S1x1 .f32) (m0 : FVec F S256x128 .f32) (s1 : FVec F S256x4352 .f32) (v : Vec F S1x4352x256 .bf16) (g : Vec F S1x128 .f32) :
    FVec F S1x256x128 .bf16 := k0_pay32 (lessLam lam m0 (attend s1 (slab v))) g

/-- Which of 128 columns are in the left half, where the left takes `a` and the right `b`, rounded and stored. -/
def halves (a b : FVec F S256x128 .f32) : FVec F S1x256x128 .bf16 :=
  shapeCast S1x256x128 (truncf .bf16 (select (cmpi .slt (iota .tc S256x128 32 [1] iota_S256x128_d1_w32) (broadcast S256x128 64#32)) a b) bitsLt_bf16_f32) shapeCasts_S256x128_S1x256x128

/-- The columns turned by 64. -/
def turned (a : FVec F S256x128 .f32) : FVec F S256x128 .f32 := dynamicRotate 1 64#32 none a rotates_S256x128_d1

/-- Columns 0…63 of the queries. -/
abbrev q0 (x : Vec F S1x256x512 .f32) : Vec F S1x256x64 .f32 := View.ld x (Rect.unit (s := S1x256x512) ![0, 0, 0] S1x256x64.size inb_S1x256x512_S1x256x64_0_0_0)
/-- Columns 64…127 of the queries. -/
abbrev q64 (x : Vec F S1x256x512 .f32) : Vec F S1x256x64 .f32 := View.ld x (Rect.unit (s := S1x256x512) ![0, 0, 64] S1x256x64.size inb_S1x256x512_S1x256x64_0_0_64)
/-- Columns 128…191 of the queries. -/
abbrev q128 (x : Vec F S1x256x512 .f32) : Vec F S1x256x64 .f32 := View.ld x (Rect.unit (s := S1x256x512) ![0, 0, 128] S1x256x64.size inb_S1x256x512_S1x256x64_0_0_128)
/-- Columns 192…255 of the queries. -/
abbrev q192 (x : Vec F S1x256x512 .f32) : Vec F S1x256x64 .f32 := View.ld x (Rect.unit (s := S1x256x512) ![0, 0, 192] S1x256x64.size inb_S1x256x512_S1x256x64_0_0_192)
/-- Columns 256…319 of the queries. -/
abbrev q256 (x : Vec F S1x256x512 .f32) : Vec F S1x256x64 .f32 := View.ld x (Rect.unit (s := S1x256x512) ![0, 0, 256] S1x256x64.size inb_S1x256x512_S1x256x64_0_0_256)
/-- Columns 320…383 of the queries. -/
abbrev q320 (x : Vec F S1x256x512 .f32) : Vec F S1x256x64 .f32 := View.ld x (Rect.unit (s := S1x256x512) ![0, 0, 320] S1x256x64.size inb_S1x256x512_S1x256x64_0_0_320)
/-- Columns 384…447 of the queries. -/
abbrev q384 (x : Vec F S1x256x512 .f32) : Vec F S1x256x64 .f32 := View.ld x (Rect.unit (s := S1x256x512) ![0, 0, 384] S1x256x64.size inb_S1x256x512_S1x256x64_0_0_384)
/-- Columns 448…511 of the queries. -/
abbrev q448 (x : Vec F S1x256x512 .f32) : Vec F S1x256x64 .f32 := View.ld x (Rect.unit (s := S1x256x512) ![0, 0, 448] S1x256x64.size inb_S1x256x512_S1x256x64_0_0_448)
/-- Rows 0…63 of the differential heads' transposed keys. -/
abbrev k0 (x : Vec F S1x512x4352 .bf16) : Vec F S1x64x4352 .bf16 := View.ld x (Rect.unit (s := S1x512x4352) ![0, 0, 0] S1x64x4352.size inb_S1x512x4352_S1x64x4352_0_0_0)
/-- Rows 64…127 of the differential heads' transposed keys. -/
abbrev k64 (x : Vec F S1x512x4352 .bf16) : Vec F S1x64x4352 .bf16 := View.ld x (Rect.unit (s := S1x512x4352) ![0, 64, 0] S1x64x4352.size inb_S1x512x4352_S1x64x4352_0_64_0)
/-- Rows 128…191 of the differential heads' transposed keys. -/
abbrev k128 (x : Vec F S1x512x4352 .bf16) : Vec F S1x64x4352 .bf16 := View.ld x (Rect.unit (s := S1x512x4352) ![0, 128, 0] S1x64x4352.size inb_S1x512x4352_S1x64x4352_0_128_0)
/-- Rows 192…255 of the differential heads' transposed keys. -/
abbrev k192 (x : Vec F S1x512x4352 .bf16) : Vec F S1x64x4352 .bf16 := View.ld x (Rect.unit (s := S1x512x4352) ![0, 192, 0] S1x64x4352.size inb_S1x512x4352_S1x64x4352_0_192_0)
/-- Rows 256…319 of the differential heads' transposed keys. -/
abbrev k256 (x : Vec F S1x512x4352 .bf16) : Vec F S1x64x4352 .bf16 := View.ld x (Rect.unit (s := S1x512x4352) ![0, 256, 0] S1x64x4352.size inb_S1x512x4352_S1x64x4352_0_256_0)
/-- Rows 320…383 of the differential heads' transposed keys. -/
abbrev k320 (x : Vec F S1x512x4352 .bf16) : Vec F S1x64x4352 .bf16 := View.ld x (Rect.unit (s := S1x512x4352) ![0, 320, 0] S1x64x4352.size inb_S1x512x4352_S1x64x4352_0_320_0)
/-- Rows 384…447 of the differential heads' transposed keys. -/
abbrev k384 (x : Vec F S1x512x4352 .bf16) : Vec F S1x64x4352 .bf16 := View.ld x (Rect.unit (s := S1x512x4352) ![0, 384, 0] S1x64x4352.size inb_S1x512x4352_S1x64x4352_0_384_0)
/-- Rows 448…511 of the differential heads' transposed keys. -/
abbrev k448 (x : Vec F S1x512x4352 .bf16) : Vec F S1x64x4352 .bf16 := View.ld x (Rect.unit (s := S1x512x4352) ![0, 448, 0] S1x64x4352.size inb_S1x512x4352_S1x64x4352_0_448_0)
/-- Rows 0…63 of the grouped heads' transposed keys. -/
abbrev g0 (x : Vec F S1x128x4352 .bf16) : Vec F S1x64x4352 .bf16 := View.ld x (Rect.unit (s := S1x128x4352) ![0, 0, 0] S1x64x4352.size inb_S1x128x4352_S1x64x4352_0_0_0)
/-- Rows 64…127 of the grouped heads' transposed keys. -/
abbrev g64 (x : Vec F S1x128x4352 .bf16) : Vec F S1x64x4352 .bf16 := View.ld x (Rect.unit (s := S1x128x4352) ![0, 64, 0] S1x64x4352.size inb_S1x128x4352_S1x64x4352_0_64_0)
/-- Slab 0 of the stacked values. -/
abbrev v0 (x : Vec F S4x4352x256 .bf16) : Vec F S1x4352x256 .bf16 := View.ld x (Rect.unit (s := S4x4352x256) ![0, 0, 0] S1x4352x256.size inb_S4x4352x256_S1x4352x256_0_0_0)
/-- Slab 1 of the stacked values. -/
abbrev v1 (x : Vec F S4x4352x256 .bf16) : Vec F S1x4352x256 .bf16 := View.ld x (Rect.unit (s := S4x4352x256) ![1, 0, 0] S1x4352x256.size inb_S4x4352x256_S1x4352x256_1_0_0)
/-- Slab 2 of the stacked values. -/
abbrev v2 (x : Vec F S4x4352x256 .bf16) : Vec F S1x4352x256 .bf16 := View.ld x (Rect.unit (s := S4x4352x256) ![2, 0, 0] S1x4352x256.size inb_S4x4352x256_S1x4352x256_2_0_0)
/-- Slab 3 of the stacked values. -/
abbrev v3 (x : Vec F S4x4352x256 .bf16) : Vec F S1x4352x256 .bf16 := View.ld x (Rect.unit (s := S4x4352x256) ![3, 0, 0] S1x4352x256.size inb_S4x4352x256_S1x4352x256_3_0_0)
/-- The normalisation's gains, as loaded. -/
abbrev gain (x : Vec F S1x128 .f32) : Vec F S1x128 .f32 := View.ld x (Rect.unit (s := S1x128) ![0, 0] S1x128.size inb_S1x128_S1x128_0_0)
/-- λ, from its four vectors. -/
abbrev lam (x : Vec F S4x64 .f32) : FVec F S1x1 .f32 := k0_pay17 (View.ld x (Rect.unit (s := S4x64) ![0, 0] S4x64.size inb_S4x64_S4x64_0_0))
/-- The grouped heads' values, as loaded. -/
abbrev vg (x : Vec F S4352x256 .bf16) : Vec F S4352x256 .bf16 := View.ld x (Rect.unit (s := S4352x256) ![0, 0] S4352x256.size inb_S4352x256_S4352x256_0_0)

/-- The stores that fill the stacked values: each head's values, and ones beside them. -/
def vdxPieces (x3 : Vec F S1x4352x512 .bf16) : List (View.Piece (Elt F) S4x4352x256 .bf16) :=
  [⟨Rect.unit (s := S4x4352x256) ![3, 0, 128] S1x4352x128.size inb_S4x4352x256_S1x4352x128_3_0_128, k0_pay5⟩,
   ⟨Rect.unit (s := S4x4352x256) ![3, 0, 0] S1x4352x128.size inb_S4x4352x256_S1x4352x128_3_0_0, k0_pay4 (View.ld x3 (Rect.unit (s := S1x4352x512) ![0, 0, 384] S1x4352x128.size inb_S1x4352x512_S1x4352x128_0_0_384))⟩,
   ⟨Rect.unit (s := S4x4352x256) ![2, 0, 128] S1x4352x128.size inb_S4x4352x256_S1x4352x128_2_0_128, k0_pay5⟩,
   ⟨Rect.unit (s := S4x4352x256) ![2, 0, 0] S1x4352x128.size inb_S4x4352x256_S1x4352x128_2_0_0, k0_pay4 (View.ld x3 (Rect.unit (s := S1x4352x512) ![0, 0, 256] S1x4352x128.size inb_S1x4352x512_S1x4352x128_0_0_256))⟩,
   ⟨Rect.unit (s := S4x4352x256) ![1, 0, 128] S1x4352x128.size inb_S4x4352x256_S1x4352x128_1_0_128, k0_pay5⟩,
   ⟨Rect.unit (s := S4x4352x256) ![1, 0, 0] S1x4352x128.size inb_S4x4352x256_S1x4352x128_1_0_0, k0_pay4 (View.ld x3 (Rect.unit (s := S1x4352x512) ![0, 0, 128] S1x4352x128.size inb_S1x4352x512_S1x4352x128_0_0_128))⟩,
   ⟨Rect.unit (s := S4x4352x256) ![0, 0, 128] S1x4352x128.size inb_S4x4352x256_S1x4352x128_0_0_128, k0_pay5⟩,
   ⟨Rect.unit (s := S4x4352x256) ![0, 0, 0] S1x4352x128.size inb_S4x4352x256_S1x4352x128_0_0_0, k0_pay4 (View.ld x3 (Rect.unit (s := S1x4352x512) ![0, 0, 0] S1x4352x128.size inb_S1x4352x512_S1x4352x128_0_0_0))⟩]

/-- The stacked values. -/
def vdxOf (x3 : Vec F S1x4352x512 .bf16) : Vec F S4x4352x256 .bf16 := View.canon (vdxPieces x3)

/-- The stores that fill the grouped heads' values: the two heads' values, and ones beside them. -/
def vgxPieces (x5 : Vec F S1x4352x128 .bf16) : List (View.Piece (Elt F) S4352x256 .bf16) :=
  [⟨Rect.unit (s := S4352x256) ![0, 128] S4352x128.size inb_S4352x256_S4352x128_0_128, k0_pay14⟩,
   ⟨Rect.unit (s := S4352x256) ![0, 0] S4352x128.size inb_S4352x256_S4352x128_0_0, k0_pay13 (View.ld x5 (Rect.unit (s := S1x4352x128) ![0, 0, 0] S1x4352x128.size inb_S1x4352x128_S1x4352x128_0_0_0))⟩]

/-- The grouped heads' values with the ones. -/
def vgxOf (x5 : Vec F S1x4352x128 .bf16) : Vec F S4352x256 .bf16 := View.canon (vgxPieces x5)

/-- The last head's second scores, kept for the next point. -/
def sOf (x0 : Vec F S1x256x512 .f32) (x2 : Vec F S1x512x4352 .bf16) : Vec F S256x4352 .f32 := k0_pay2 (q448 x0) (k448 x2)

/-- The last head's first softmax, kept for the next point. -/
def mOf (x0 : Vec F S1x256x512 .f32) (x2 : Vec F S1x512x4352 .bf16) (xs0 : Vec F S4x4352x256 .bf16) : Vec F S256x128 .f32 :=
  shapeCast S256x128 (attend (scores (q384 x0) (k384 x2)) (slab (v3 xs0))) shapeCasts_S256x128_S256x128

/-- The first three differential heads' rows. -/
def odPieces (x0 : Vec F S1x256x512 .f32) (x2 : Vec F S1x512x4352 .bf16) (x6 : Vec F S4x64 .f32) (x7 : Vec F S1x128 .f32) (xs0 : Vec F S4x4352x256 .bf16) :
    List (View.Piece (Elt F) S1x256x384 .bf16) :=
  [⟨Rect.unit (s := S1x256x384) ![0, 0, 256] S1x256x128.size inb_S1x256x384_S1x256x128_0_0_256, diffHead (lam x6) (attend (scores (q256 x0) (k256 x2)) (slab (v2 xs0))) (scores (q320 x0) (k320 x2)) (v2 xs0) (gain x7)⟩,
   ⟨Rect.unit (s := S1x256x384) ![0, 0, 128] S1x256x128.size inb_S1x256x384_S1x256x128_0_0_128, diffHead (lam x6) (attend (scores (q128 x0) (k128 x2)) (slab (v1 xs0))) (scores (q192 x0) (k192 x2)) (v1 xs0) (gain x7)⟩,
   ⟨Rect.unit (s := S1x256x384) ![0, 0, 0] S1x256x128.size inb_S1x256x384_S1x256x128_0_0_0, diffHead (lam x6) (attend (scores (q0 x0) (k0 x2)) (slab (v0 xs0))) (scores (q64 x0) (k64 x2)) (v0 xs0) (gain x7)⟩]

/-- The eight grouped heads' rows, in pairs: each pair's left half from its first head and right half from its second, the head that
    keeps its values in the other half turned. -/
def ogPieces (x1 : Vec F S1x256x512 .f32) (x4 : Vec F S1x128x4352 .bf16) (xs1 : Vec F S4352x256 .bf16) :
    List (View.Piece (Elt F) S1x256x512 .bf16) :=
  [⟨Rect.unit (s := S1x256x512) ![0, 0, 384] S1x256x128.size inb_S1x256x512_S1x256x128_0_0_384, halves (turned (attend (scores (q384 x1) (g64 x4)) (vg xs1))) (attend (scores (q448 x1) (g64 x4)) (vg xs1))⟩,
   ⟨Rect.unit (s := S1x256x512) ![0, 0, 256] S1x256x128.size inb_S1x256x512_S1x256x128_0_0_256, halves (turned (attend (scores (q256 x1) (g64 x4)) (vg xs1))) (attend (scores (q320 x1) (g64 x4)) (vg xs1))⟩,
   ⟨Rect.unit (s := S1x256x512) ![0, 0, 128] S1x256x128.size inb_S1x256x512_S1x256x128_0_0_128, halves (attend (scores (q128 x1) (g0 x4)) (vg xs1)) (turned (attend (scores (q192 x1) (g0 x4)) (vg xs1)))⟩,
   ⟨Rect.unit (s := S1x256x512) ![0, 0, 0] S1x256x128.size inb_S1x256x512_S1x256x128_0_0_0, halves (attend (scores (q0 x1) (g0 x4)) (vg xs1)) (turned (attend (scores (q64 x1) (g0 x4)) (vg xs1)))⟩]

/-- The last differential head's rows, from what was kept of their tile. -/
def lastHead (x6 : Vec F S4x64 .f32) (x7 : Vec F S1x128 .f32) (xs0 : Vec F S4x4352x256 .bf16) (xs2 : Vec F S256x4352 .f32) (xs3 : Vec F S256x128 .f32) :
    FVec F S1x256x128 .bf16 :=
  diffHead (lam x6) (View.ld xs3 (Rect.unit (s := S256x128) ![0, 0] S256x128.size inb_S256x128_S256x128_0_0))
    (View.ld xs2 (Rect.unit (s := S256x4352) ![0, 0] S256x4352.size inb_S256x4352_S256x4352_0_0)) (v3 xs0) (gain x7)

end Cert.KernelIdeal.Attn

end
-- ==== Proof.Found.lean ====
/-
  The stores that each case's run leaves are those of `Body`: in the tiles that find the scratch filled.
-/
module

public import proofs.«01_k».proof.Proof.RunC
public import proofs.«01_k».proof.Proof.Body
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
theorem runB_od (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).1 = odPieces x0 x2 x6 x7 xs0 := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = odPieces (arg2.view.read (Elt F) (harg2.unread x0)) (arg4.view.read (Elt F) (harg4.unread x2)) (arg8.view.read (Elt F) (harg8.unread x6)) (arg9.view.read (Elt F) (harg9.unread x7)) (arg13.view.read (Elt F) (harg13.unread xs0)) from rfl).trans ?_
  rw [e2, e4, e8, e9, e13]

set_option maxHeartbeats 2000000 in
theorem runB_og (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.1 = ogPieces x1 x4 xs1 := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ogPieces (arg3.view.read (Elt F) (harg3.unread x1)) (arg6.view.read (Elt F) (harg6.unread x4)) (arg14.view.read (Elt F) (harg14.unread xs1)) from rfl).trans ?_
  rw [e3, e6, e14]

set_option maxHeartbeats 2000000 in
theorem runB_s (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.2.1 = [⟨Rect.unit (s := S256x4352) ![0, 0] S256x4352.size inb_S256x4352_S256x4352_0_0, sOf x0 x2⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ([⟨Rect.unit (s := S256x4352) ![0, 0] S256x4352.size inb_S256x4352_S256x4352_0_0, sOf (arg2.view.read (Elt F) (harg2.unread x0)) (arg4.view.read (Elt F) (harg4.unread x2))⟩] : List (View.Piece (Elt F) S256x4352 .f32)) from rfl).trans ?_
  rw [e2, e4]

set_option maxHeartbeats 2000000 in
theorem runB_m (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.2.2.1 = [⟨Rect.unit (s := S256x128) ![0, 0] S256x128.size inb_S256x128_S256x128_0_0, mOf x0 x2 xs0⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ([⟨Rect.unit (s := S256x128) ![0, 0] S256x128.size inb_S256x128_S256x128_0_0, mOf (arg2.view.read (Elt F) (harg2.unread x0)) (arg4.view.read (Elt F) (harg4.unread x2)) (arg13.view.read (Elt F) (harg13.unread xs0))⟩] : List (View.Piece (Elt F) S256x128 .f32)) from rfl).trans ?_
  rw [e2, e4, e13]

set_option maxHeartbeats 2000000 in
theorem runB_last (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.1 = [⟨Rect.unit (s := S1x4096x128) (k0_off1 i) S1x256x128.size (k0_off1_inb i), lastHead x6 x7 xs0 xs2 xs3⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ([⟨Rect.unit (s := S1x4096x128) (k0_off1 i) S1x256x128.size (k0_off1_inb i), lastHead (arg8.view.read (Elt F) (harg8.unread x6)) (arg9.view.read (Elt F) (harg9.unread x7)) (arg13.view.read (Elt F) (harg13.unread xs0)) (arg15.view.read (Elt F) (harg15.unread xs2)) (arg16.view.read (Elt F) (harg16.unread xs3))⟩] : List (View.Piece (Elt F) S1x4096x128 .bf16)) from rfl).trans ?_
  rw [e8, e9, e13, e15, e16]

set_option maxHeartbeats 2000000 in
theorem runC_od (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).1 = odPieces x0 x2 x6 x7 xs0 := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = odPieces (arg2.view.read (Elt F) (harg2.unread x0)) (arg4.view.read (Elt F) (harg4.unread x2)) (arg8.view.read (Elt F) (harg8.unread x6)) (arg9.view.read (Elt F) (harg9.unread x7)) (arg13.view.read (Elt F) (harg13.unread xs0)) from rfl).trans ?_
  rw [e2, e4, e8, e9, e13]

set_option maxHeartbeats 2000000 in
theorem runC_og (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.1 = ogPieces x1 x4 xs1 := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ogPieces (arg3.view.read (Elt F) (harg3.unread x1)) (arg6.view.read (Elt F) (harg6.unread x4)) (arg14.view.read (Elt F) (harg14.unread xs1)) from rfl).trans ?_
  rw [e3, e6, e14]

set_option maxHeartbeats 2000000 in
theorem runC_s (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.2.1 = [⟨Rect.unit (s := S256x4352) ![0, 0] S256x4352.size inb_S256x4352_S256x4352_0_0, sOf x0 x2⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ([⟨Rect.unit (s := S256x4352) ![0, 0] S256x4352.size inb_S256x4352_S256x4352_0_0, sOf (arg2.view.read (Elt F) (harg2.unread x0)) (arg4.view.read (Elt F) (harg4.unread x2))⟩] : List (View.Piece (Elt F) S256x4352 .f32)) from rfl).trans ?_
  rw [e2, e4]

set_option maxHeartbeats 2000000 in
theorem runC_m (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.2.2.1 = [⟨Rect.unit (s := S256x128) ![0, 0] S256x128.size inb_S256x128_S256x128_0_0, mOf x0 x2 xs0⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ([⟨Rect.unit (s := S256x128) ![0, 0] S256x128.size inb_S256x128_S256x128_0_0, mOf (arg2.view.read (Elt F) (harg2.unread x0)) (arg4.view.read (Elt F) (harg4.unread x2)) (arg13.view.read (Elt F) (harg13.unread xs0))⟩] : List (View.Piece (Elt F) S256x128 .f32)) from rfl).trans ?_
  rw [e2, e4, e13]

set_option maxHeartbeats 2000000 in
theorem runC_last (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) :
    (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.1 = [⟨Rect.unit (s := S1x4096x128) (k0_off2 i) S1x256x128.size (k0_off2_inb i hc1), lastHead x6 x7 xs0 (sOf x0 x2) (mOf x0 x2 xs0)⟩,
        ⟨Rect.unit (s := S1x4096x128) (k0_off1 i) S1x256x128.size (k0_off1_inb i), lastHead x6 x7 xs0 xs2 xs3⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  have e13 := harg13.read_unread (Val := Elt F) xs0
  have e14 := harg14.read_unread (Val := Elt F) xs1
  have e15 := harg15.read_unread (Val := Elt F) xs2
  have e16 := harg16.read_unread (Val := Elt F) xs3
  refine (show _ = ([⟨Rect.unit (s := S1x4096x128) (k0_off2 i) S1x256x128.size (k0_off2_inb i hc1),
      diffHead (k0_pay17 (View.ld (arg8.view.read (Elt F) (harg8.unread x6)) (Rect.unit (s := S4x64) ![0, 0] S4x64.size inb_S4x64_S4x64_0_0)))
        (runC.sl.v484 c arg2 harg2 arg4 harg4 arg13 harg13 arg16 x0 x2 xs0)
        (runC.sl.v474 c arg2 harg2 arg4 harg4 arg15 x0 x2) (v3 (arg13.view.read (Elt F) (harg13.unread xs0))) (gain (arg9.view.read (Elt F) (harg9.unread x7)))⟩,
      ⟨Rect.unit (s := S1x4096x128) (k0_off1 i) S1x256x128.size (k0_off1_inb i),
        lastHead (arg8.view.read (Elt F) (harg8.unread x6)) (arg9.view.read (Elt F) (harg9.unread x7)) (arg13.view.read (Elt F) (harg13.unread xs0))
          (arg15.view.read (Elt F) (harg15.unread xs2)) (arg16.view.read (Elt F) (harg16.unread xs3))⟩] : List (View.Piece (Elt F) S1x4096x128 .bf16)) from rfl).trans ?_
  have es : runC.sl.v474 c arg2 harg2 arg4 harg4 arg15 x0 x2 = sOf x0 x2 :=
    (View.readCov_cons_toLoadRect arg15.view _ _ _).trans (by
      show k0_pay2 (q448 (arg2.view.read (Elt F) (harg2.unread x0))) (k448 (arg4.view.read (Elt F) (harg4.unread x2))) = _
      rw [e2, e4]; rfl)
  have em : runC.sl.v484 c arg2 harg2 arg4 harg4 arg13 harg13 arg16 x0 x2 xs0 = mOf x0 x2 xs0 :=
    (View.readCov_cons_toLoadRect arg16.view _ _ _).trans (by
      show mOf (arg2.view.read (Elt F) (harg2.unread x0)) (arg4.view.read (Elt F) (harg4.unread x2)) (arg13.view.read (Elt F) (harg13.unread xs0)) = _
      rw [e2, e4, e13])
  rw [es, em, e8, e9, e13, e15, e16]
  have h0 : View.ld (mOf x0 x2 xs0) (Rect.unit (s := S256x128) ![0, 0] S256x128.size inb_S256x128_S256x128_0_0) = mOf x0 x2 xs0 :=
    View.ld_unit_zero (by funext a; fin_cases a <;> rfl) _ _
  have h1 : View.ld (sOf x0 x2) (Rect.unit (s := S256x4352) ![0, 0] S256x4352.size inb_S256x4352_S256x4352_0_0) = sOf x0 x2 :=
    View.ld_unit_zero (by funext a; fin_cases a <;> rfl) _ _
  unfold lastHead; rw [h0, h1]

end Cert.KernelIdeal.Attn

end
-- ==== Proof.FoundA.lean ====
/-
  The stores that a batch's first tile leaves are those of `Body`, over the values it stacks.
-/
module

public import proofs.«01_k».proof.Proof.Found

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
theorem runA_od (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).1 = odPieces x0 x2 x6 x7 (vdxOf x3) := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  refine (show _ = odPieces (arg2.view.read (Elt F) (harg2.unread x0)) (arg4.view.read (Elt F) (harg4.unread x2)) (arg8.view.read (Elt F) (harg8.unread x6)) (arg9.view.read (Elt F) (harg9.unread x7)) (arg13.view.read (Elt F) (arg13.view.writes (Elt F) arg13.view.junk (vdxPieces (arg5.view.read (Elt F) (harg5.unread x3))))) from rfl).trans ?_
  rw [View.read_writes_junk_eq_canon, e2, e4, e5, e8, e9]; rfl

set_option maxHeartbeats 2000000 in
theorem runA_og (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).2.1 = ogPieces x1 x4 (vgxOf x5) := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  refine (show _ = ogPieces (arg3.view.read (Elt F) (harg3.unread x1)) (arg6.view.read (Elt F) (harg6.unread x4)) (arg14.view.read (Elt F) (arg14.view.writes (Elt F) arg14.view.junk (vgxPieces (arg7.view.read (Elt F) (harg7.unread x5))))) from rfl).trans ?_
  rw [View.read_writes_junk_eq_canon, e3, e6, e7]; rfl

set_option maxHeartbeats 2000000 in
theorem runA_vdx (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).2.2.2.1 = vdxPieces x3 := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  refine (show _ = vdxPieces (arg5.view.read (Elt F) (harg5.unread x3)) from rfl).trans ?_
  rw [e5]

set_option maxHeartbeats 2000000 in
theorem runA_vgx (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).2.2.2.2.1 = vgxPieces x5 := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  refine (show _ = vgxPieces (arg7.view.read (Elt F) (harg7.unread x5)) from rfl).trans ?_
  rw [e7]

set_option maxHeartbeats 2000000 in
theorem runA_s (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).2.2.2.2.2.1 = [⟨Rect.unit (s := S256x4352) ![0, 0] S256x4352.size inb_S256x4352_S256x4352_0_0, sOf x0 x2⟩, ⟨Rect.unit (s := S256x4352) ![0, 0] S256x4352.size inb_S256x4352_S256x4352_0_0, k0_pay15⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  refine (show _ = ([⟨Rect.unit (s := S256x4352) ![0, 0] S256x4352.size inb_S256x4352_S256x4352_0_0, sOf (arg2.view.read (Elt F) (harg2.unread x0)) (arg4.view.read (Elt F) (harg4.unread x2))⟩, ⟨Rect.unit (s := S256x4352) ![0, 0] S256x4352.size inb_S256x4352_S256x4352_0_0, k0_pay15⟩] : List (View.Piece (Elt F) S256x4352 .f32)) from rfl).trans ?_
  rw [e2, e4]

set_option maxHeartbeats 2000000 in
theorem runA_m (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).2.2.2.2.2.2.1 = [⟨Rect.unit (s := S256x128) ![0, 0] S256x128.size inb_S256x128_S256x128_0_0, mOf x0 x2 (vdxOf x3)⟩, ⟨Rect.unit (s := S256x128) ![0, 0] S256x128.size inb_S256x128_S256x128_0_0, k0_pay16⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  refine (show _ = ([⟨Rect.unit (s := S256x128) ![0, 0] S256x128.size inb_S256x128_S256x128_0_0, mOf (arg2.view.read (Elt F) (harg2.unread x0)) (arg4.view.read (Elt F) (harg4.unread x2)) (arg13.view.read (Elt F) (arg13.view.writes (Elt F) arg13.view.junk (vdxPieces (arg5.view.read (Elt F) (harg5.unread x3)))))⟩, ⟨Rect.unit (s := S256x128) ![0, 0] S256x128.size inb_S256x128_S256x128_0_0, k0_pay16⟩] : List (View.Piece (Elt F) S256x128 .f32)) from rfl).trans ?_
  rw [View.read_writes_junk_eq_canon, e2, e4, e5]; rfl

set_option maxHeartbeats 2000000 in
theorem runA_last (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) :
    ∃ w, (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).2.2.1 = [⟨Rect.unit (s := S1x4096x128) (k0_off1 i) S1x256x128.size (k0_off1_inb i), w⟩] := by
  have e2 := harg2.read_unread (Val := Elt F) x0
  have e3 := harg3.read_unread (Val := Elt F) x1
  have e4 := harg4.read_unread (Val := Elt F) x2
  have e5 := harg5.read_unread (Val := Elt F) x3
  have e6 := harg6.read_unread (Val := Elt F) x4
  have e7 := harg7.read_unread (Val := Elt F) x5
  have e8 := harg8.read_unread (Val := Elt F) x6
  have e9 := harg9.read_unread (Val := Elt F) x7
  exact ⟨lastHead (arg8.view.read (Elt F) (harg8.unread x6)) (arg9.view.read (Elt F) (harg9.unread x7)) (arg13.view.read (Elt F) (arg13.view.writes (Elt F) arg13.view.junk (vdxPieces (arg5.view.read (Elt F) (harg5.unread x3))))) (arg15.view.read (Elt F) (arg15.view.writes (Elt F) arg15.view.junk [⟨Rect.unit (s := S256x4352) ![0, 0] S256x4352.size inb_S256x4352_S256x4352_0_0, k0_pay15⟩])) (arg16.view.read (Elt F) (arg16.view.writes (Elt F) arg16.view.junk [⟨Rect.unit (s := S256x128) ![0, 0] S256x128.size inb_S256x128_S256x128_0_0, k0_pay16⟩])), rfl⟩

end Cert.KernelIdeal.Attn

end
-- ==== Proof.Spec.lean ====
/-
  The body's runs with the buffers left at the contents that `Body` names.
-/
module

public import proofs.«01_k».proof.Proof.FoundA
public import Idealize.ShloMosaic.Lib.Ring
public import Idealize.ShloMosaic.Lib.WritesUnit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

theorem cover_od (x0 : Vec F S1x256x512 .f32) (x2 : Vec F S1x512x4352 .bf16) (x6 : Vec F S4x64 .f32) (x7 : Vec F S1x128 .f32) (xs0 : Vec F S4x4352x256 .bf16) :
    ∀ y, ∃ p ∈ odPieces x0 x2 x6 x7 xs0, y ∈ p.1.set := View.cover_of_tiledL _ ![1, 256, 128] (by sl_kernel_rfl)
theorem cover_og (x1 : Vec F S1x256x512 .f32) (x4 : Vec F S1x128x4352 .bf16) (xs1 : Vec F S4352x256 .bf16) :
    ∀ y, ∃ p ∈ ogPieces x1 x4 xs1, y ∈ p.1.set := View.cover_of_tiledL _ ![1, 256, 128] (by sl_kernel_rfl)
theorem cover_vdx (x3 : Vec F S1x4352x512 .bf16) : ∀ y, ∃ p ∈ vdxPieces x3, y ∈ p.1.set := View.cover_of_tiledL _ ![1, 4352, 128] (by sl_kernel_rfl)
theorem cover_vgx (x5 : Vec F S1x4352x128 .bf16) : ∀ y, ∃ p ∈ vgxPieces x5, y ∈ p.1.set := View.cover_of_tiledL _ ![4352, 128] (by sl_kernel_rfl)

theorem read_s (v : View sig .tc .vmem S256x4352 .f32) (f : v.ty.Contents (Elt F)) (w : Vec F S256x4352 .f32) (L : List (View.Piece (Elt F) S256x4352 .f32)) :
    v.read (Elt F) (v.writes (Elt F) f ((⟨Rect.unit (s := S256x4352) ![0, 0] S256x4352.size inb_S256x4352_S256x4352_0_0, w⟩ : View.Piece (Elt F) S256x4352 .f32) :: L)) = w := by
  funext y
  exact View.read_writes_cons_unit_of_mem v f _ w L y y (by funext a; fin_cases a <;> rfl : (![0, 0] : Fin 2 → ℕ) = fun _ => 0) (fun a => (Nat.zero_add _).symm)

theorem read_m (v : View sig .tc .vmem S256x128 .f32) (f : v.ty.Contents (Elt F)) (w : Vec F S256x128 .f32) (L : List (View.Piece (Elt F) S256x128 .f32)) :
    v.read (Elt F) (v.writes (Elt F) f ((⟨Rect.unit (s := S256x128) ![0, 0] S256x128.size inb_S256x128_S256x128_0_0, w⟩ : View.Piece (Elt F) S256x128 .f32) :: L)) = w := by
  funext y
  exact View.read_writes_cons_unit_of_mem v f _ w L y y (by funext a; fin_cases a <;> rfl : (![0, 0] : Fin 2 → ℕ) = fun _ => 0) (fun a => (Nat.zero_add _).symm)

/-- The last head's buffer once its rows of one tile are stored at offsets `off`. -/
def putRows (off : Fin 3 → ℕ) (inb : ∀ a, off a + S1x256x128.size a ≤ S1x4096x128.size a) (w : Vec F S1x256x128 .bf16) (y : Vec F S1x4096x128 .bf16) : Vec F S1x4096x128 .bf16 :=
  (Rect.unit (s := S1x4096x128) off S1x256x128.size inb).overlay y w

/-- Inside the stored rows, the stored value; -/
theorem putRows_in {off off' : Fin 3 → ℕ} (inb : ∀ a, off a + S1x256x128.size a ≤ S1x4096x128.size a) (w : Vec F S1x256x128 .bf16) (y : Vec F S1x4096x128 .bf16)
    (j : S1x4096x128.Idx) (x : S1x256x128.Idx) (h : off = off') (hx : ∀ a, (j a).val = off' a + (x a).val) : putRows off inb w y j = w x := by
  subst h
  have hy : (Rect.unit (s := S1x4096x128) off S1x256x128.size inb).emb x = j := funext fun a => Fin.ext (by
    show off a + 1 * (x a).val = (j a).val
    rw [hx a, Nat.one_mul])
  rw [← hy]; exact (Rect.unit (s := S1x4096x128) off S1x256x128.size inb).overlay_emb y w x

/-- outside them, what was there. -/
theorem putRows_out {off off' : Fin 3 → ℕ} (inb : ∀ a, off a + S1x256x128.size a ≤ S1x4096x128.size a) (w : Vec F S1x256x128 .bf16) (y : Vec F S1x4096x128 .bf16)
    (j : S1x4096x128.Idx) (h : off = off') (hr : (j 1).val < off' 1 ∨ off' 1 + 256 ≤ (j 1).val) : putRows off inb w y j = y j := by
  subst h
  refine (Rect.unit (s := S1x4096x128) off S1x256x128.size inb).overlay_of_not_mem y w ?_
  rw [Rect.mem_set_unit]
  intro hall
  have h1 := hall 1
  have h2 : S1x256x128.size 1 = 256 := rfl
  omega

theorem read_put (v : View sig .tc .vmem S1x4096x128 .bf16) (f : v.ty.Contents (Elt F)) (off : Fin 3 → ℕ) (inb : ∀ a, off a + S1x256x128.size a ≤ S1x4096x128.size a)
    (w : Vec F S1x256x128 .bf16) (L : List (View.Piece (Elt F) S1x4096x128 .bf16)) :
    v.read (Elt F) (v.writes (Elt F) f ((⟨Rect.unit (s := S1x4096x128) off S1x256x128.size inb, w⟩ : View.Piece (Elt F) S1x4096x128 .bf16) :: L))
      = putRows off inb w (v.read (Elt F) (v.writes (Elt F) f L)) := by
  funext j
  by_cases hj : j ∈ (Rect.unit (s := S1x4096x128) off S1x256x128.size inb).set
  · obtain ⟨x, rfl⟩ : ∃ x, (Rect.unit (s := S1x4096x128) off S1x256x128.size inb).emb x = j := (Rect.unit (s := S1x4096x128) off S1x256x128.size inb).exists_idx_of_mem hj
    rw [View.read_writes_cons_emb]
    exact ((Rect.unit (s := S1x4096x128) off S1x256x128.size inb).overlay_emb _ w x).symm
  · rw [View.read_writes_cons_miss v f ⟨Rect.unit (s := S1x4096x128) off S1x256x128.size inb, w⟩ L j hj]
    exact ((Rect.unit (s := S1x4096x128) off S1x256x128.size inb).overlay_of_not_mem _ w hj).symm

set_option maxHeartbeats 4000000 in
/-- A batch's first tile. -/
theorem bodyA (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (View.canon (odPieces x0 x2 x6 x7 (vdxOf x3))) ∗ owns (c : Thread nD τ) arg11 fullShare (View.canon (ogPieces x1 x4 (vgxOf x5))) ∗ (∃ w, owns (c : Thread nD τ) arg12 fullShare w) ∗ owns (c : Thread nD τ) arg13 fullShare (vdxOf x3) ∗ owns (c : Thread nD τ) arg14 fullShare (vgxOf x5) ∗ owns (c : Thread nD τ) arg15 fullShare (sOf x0 x2) ∗ owns (c : Thread nD τ) arg16 fullShare (mOf x0 x2 (vdxOf x3))) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, HS0, HS1, HS2, HS3, Hk⟩
  iapply ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, ⟨%eH8, H8⟩, ⟨%eH9, H9⟩, H10, ⟨%eHS0, HS0⟩, ⟨%eHS1, HS1⟩, ⟨%eHS2, HS2⟩, ⟨%eHS3, HS3⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [runA_od]; exact View.read_writes_eq_canon _ _ _ (cover_od _ _ _ _ _)
  isplitl [H9]
  · unfold owns; iexists _; isplitr
    swap; · iexact H9
    ipureintro; rw [runA_og]; exact View.read_writes_eq_canon _ _ _ (cover_og _ _ _)
  isplitl [H10]
  · iexists _; unfold owns; iexists _; isplitr
    swap; · iexact H10
    ipureintro; rfl
  isplitl [HS0]
  · unfold owns; iexists _; isplitr
    swap; · iexact HS0
    ipureintro; rw [runA_vdx]; exact View.read_writes_eq_canon _ _ _ (cover_vdx _)
  isplitl [HS1]
  · unfold owns; iexists _; isplitr
    swap; · iexact HS1
    ipureintro; rw [runA_vgx]; exact View.read_writes_eq_canon _ _ _ (cover_vgx _)
  isplitl [HS2]
  · unfold owns; iexists _; isplitr
    swap; · iexact HS2
    ipureintro; rw [runA_s]; exact read_s _ _ _ _
  unfold owns; iexists _; isplitr
  swap; · iexact HS3
  ipureintro; rw [runA_m]; exact read_m _ _ _ _

set_option maxHeartbeats 4000000 in
/-- A tile in the middle of a batch. -/
theorem bodyB (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : ¬Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (View.canon (odPieces x0 x2 x6 x7 xs0)) ∗ owns (c : Thread nD τ) arg11 fullShare (View.canon (ogPieces x1 x4 xs1)) ∗ owns (c : Thread nD τ) arg12 fullShare (putRows (k0_off1 i) (k0_off1_inb i) (lastHead x6 x7 xs0 xs2 xs3) y) ∗ owns (c : Thread nD τ) arg13 fullShare xs0 ∗ owns (c : Thread nD τ) arg14 fullShare xs1 ∗ owns (c : Thread nD τ) arg15 fullShare (sOf x0 x2) ∗ owns (c : Thread nD τ) arg16 fullShare (mOf x0 x2 xs0)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, HS0, HS1, HS2, HS3, Hk⟩
  iapply ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, ⟨%eH8, H8⟩, ⟨%eH9, H9⟩, H10, HS0, HS1, ⟨%eHS2, HS2⟩, ⟨%eHS3, HS3⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [runB_od]; exact View.read_writes_eq_canon _ _ _ (cover_od _ _ _ _ _)
  isplitl [H9]
  · unfold owns; iexists _; isplitr
    swap; · iexact H9
    ipureintro; rw [runB_og]; exact View.read_writes_eq_canon _ _ _ (cover_og _ _ _)
  isplitl [H10]
  · unfold owns; iexists _; isplitr
    swap; · iexact H10
    ipureintro; rw [runB_last, read_put, View.writes_nil, harg12.read_unread]
  isplitl [HS0]; · iexact HS0
  isplitl [HS1]; · iexact HS1
  isplitl [HS2]
  · unfold owns; iexists _; isplitr
    swap; · iexact HS2
    ipureintro; rw [runB_s]; exact read_s _ _ _ _
  unfold owns; iexists _; isplitr
  swap; · iexact HS3
  ipureintro; rw [runB_m]; exact read_m _ _ _ _

set_option maxHeartbeats 4000000 in
/-- A batch's last tile. -/
theorem bodyC (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x512x4352 .bf16) (harg4 : arg4.IsWhole) (arg5 : Memref sig .tc .vmem S1x4352x512 .bf16) (harg5 : arg5.IsWhole) (arg6 : Memref sig .tc .vmem S1x128x4352 .bf16) (harg6 : arg6.IsWhole) (arg7 : Memref sig .tc .vmem S1x4352x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x256x384 .bf16) (harg10 : arg10.IsWhole) (arg11 : Memref sig .tc .vmem S1x256x512 .bf16) (harg11 : arg11.IsWhole) (arg12 : Memref sig .tc .vmem S1x4096x128 .bf16) (harg12 : arg12.IsWhole) (arg13 : Memref sig .tc .vmem S4x4352x256 .bf16) (harg13 : arg13.IsWhole) (arg14 : Memref sig .tc .vmem S4352x256 .bf16) (harg14 : arg14.IsWhole) (arg15 : Memref sig .tc .vmem S256x4352 .f32) (harg15 : arg15.IsWhole) (arg16 : Memref sig .tc .vmem S256x128 .f32) (harg16 : arg16.IsWhole) (hc0 : ¬First i) (hc1 : Last i)
    (x0 : Vec F S1x256x512 .f32) (x1 : Vec F S1x256x512 .f32) (x2 : Vec F S1x512x4352 .bf16) (x3 : Vec F S1x4352x512 .bf16) (x4 : Vec F S1x128x4352 .bf16) (x5 : Vec F S1x4352x128 .bf16) (x6 : Vec F S4x64 .f32) (x7 : Vec F S1x128 .f32) (y : Vec F S1x4096x128 .bf16) (xs0 : Vec F S4x4352x256 .bf16) (xs1 : Vec F S4352x256 .bf16) (xs2 : Vec F S256x4352 .f32) (xs3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (View.canon (odPieces x0 x2 x6 x7 xs0)) ∗ owns (c : Thread nD τ) arg11 fullShare (View.canon (ogPieces x1 x4 xs1)) ∗ owns (c : Thread nD τ) arg12 fullShare (putRows (k0_off2 i) (k0_off2_inb i hc1) (lastHead x6 x7 xs0 (sOf x0 x2) (mOf x0 x2 xs0)) (putRows (k0_off1 i) (k0_off1_inb i) (lastHead x6 x7 xs0 xs2 xs3) y)) ∗ owns (c : Thread nD τ) arg13 fullShare xs0 ∗ owns (c : Thread nD τ) arg14 fullShare xs1 ∗ owns (c : Thread nD τ) arg15 fullShare (sOf x0 x2) ∗ owns (c : Thread nD τ) arg16 fullShare (mOf x0 x2 xs0)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, HS0, HS1, HS2, HS3, Hk⟩
  iapply ((runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 y xs0 xs1 xs2 xs3).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, ⟨%eH8, H8⟩, ⟨%eH9, H9⟩, H10, HS0, HS1, ⟨%eHS2, HS2⟩, ⟨%eHS3, HS3⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rw [runC_od]; exact View.read_writes_eq_canon _ _ _ (cover_od _ _ _ _ _)
  isplitl [H9]
  · unfold owns; iexists _; isplitr
    swap; · iexact H9
    ipureintro; rw [runC_og]; exact View.read_writes_eq_canon _ _ _ (cover_og _ _ _)
  isplitl [H10]
  · unfold owns; iexists _; isplitr
    swap; · iexact H10
    ipureintro; rw [runC_last, read_put, read_put, View.writes_nil, harg12.read_unread]
  isplitl [HS0]; · iexact HS0
  isplitl [HS1]; · iexact HS1
  isplitl [HS2]
  · unfold owns; iexists _; isplitr
    swap; · iexact HS2
    ipureintro; rw [runC_s]; exact read_s _ _ _ _
  unfold owns; iexists _; isplitr
  swap; · iexact HS3
  ipureintro; rw [runC_m]; exact read_m _ _ _ _

end Cert.KernelIdeal.Attn

end
-- ==== Proof.Data.lean ====
/-
  What each point of the attention leaves: the proof data. Two outputs are left at a named block. The third is one block a batch, filled by rows
  over the batch's sixteen points: of it the data say which rows hold the finished last head.
-/
module

public import proofs.«01_k».proof.Proof.Spec
public import Idealize.ShloMosaic.Lib.Pipeline.DatRel
public import Idealize.ShloMosaic.Lib.Pointwise.Index

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Input 0's block at a point. -/
abbrev b0 (c : Dev nD) (t : Fin cfg0.N) : Vec F S1x256x512 .f32 := iblk m c 0 t
/-- Input 1's block at a point. -/
abbrev b1 (c : Dev nD) (t : Fin cfg0.N) : Vec F S1x256x512 .f32 := iblk m c 1 t
/-- Input 2's block at a point. -/
abbrev b2 (c : Dev nD) (t : Fin cfg0.N) : Vec F S1x512x4352 .bf16 := iblk m c 2 t
/-- Input 3's block at a point. -/
abbrev b3 (c : Dev nD) (t : Fin cfg0.N) : Vec F S1x4352x512 .bf16 := iblk m c 3 t
/-- Input 4's block at a point. -/
abbrev b4 (c : Dev nD) (t : Fin cfg0.N) : Vec F S1x128x4352 .bf16 := iblk m c 4 t
/-- Input 5's block at a point. -/
abbrev b5 (c : Dev nD) (t : Fin cfg0.N) : Vec F S1x4352x128 .bf16 := iblk m c 5 t
/-- Input 6's block at a point. -/
abbrev b6 (c : Dev nD) (t : Fin cfg0.N) : Vec F S4x64 .f32 := iblk m c 6 t
/-- Input 7's block at a point. -/
abbrev b7 (c : Dev nD) (t : Fin cfg0.N) : Vec F S1x128 .f32 := iblk m c 7 t

theorem index0 : ∀ t : Fin grid0.N, win0_0.index t = ![t.val / 16, t.val % 16, 0] := by decide +kernel
theorem index1 : ∀ t : Fin grid0.N, win0_1.index t = ![t.val / 16, t.val % 16, 0] := by decide +kernel
theorem index2 : ∀ t : Fin grid0.N, win0_2.index t = ![t.val / 16, 0, 0] := by decide +kernel
theorem index3 : ∀ t : Fin grid0.N, win0_3.index t = ![t.val / 16, 0, 0] := by decide +kernel
theorem index4 : ∀ t : Fin grid0.N, win0_4.index t = ![t.val / 16, 0, 0] := by decide +kernel
theorem index5 : ∀ t : Fin grid0.N, win0_5.index t = ![t.val / 16, 0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![t.val / 16, t.val % 16, 0] := by decide +kernel
theorem index9 : ∀ t : Fin grid0.N, win0_9.index t = ![t.val / 16, t.val % 16, 0] := by decide +kernel
theorem index10 : ∀ t : Fin grid0.N, win0_10.index t = ![t.val / 16, 0, 0] := by decide +kernel

theorem b2_congr (c : Dev nD) {t t' : Fin cfg0.N} (h : (cfg0.win 2).index t = (cfg0.win 2).index t') : b2 m c t = b2 m c t' := by
  funext j
  show iblk m c 2 t j = iblk m c 2 t' j
  unfold iblk
  rw [View.read_apply, View.read_apply]
  show _root_.cast _ (V m c (Pipeline.arrRef spec0 2) ((cfg0.win 2).arr.view.emb (((cfg0.win 2).rect t).emb _)))
    = _root_.cast _ (V m c (Pipeline.arrRef spec0 2) ((cfg0.win 2).arr.view.emb (((cfg0.win 2).rect t').emb _)))
  congr 3
  funext a; apply Fin.ext
  rw [Rect.emb_apply, Rect.emb_apply]
  show (cfg0.win 2).kind.off ((cfg0.win 2).index t a) ((cfg0.win 2).size a) + 1 * (j a).val
    = (cfg0.win 2).kind.off ((cfg0.win 2).index t' a) ((cfg0.win 2).size a) + 1 * (j a).val
  rw [h]
theorem b3_congr (c : Dev nD) {t t' : Fin cfg0.N} (h : (cfg0.win 3).index t = (cfg0.win 3).index t') : b3 m c t = b3 m c t' := by
  funext j
  show iblk m c 3 t j = iblk m c 3 t' j
  unfold iblk
  rw [View.read_apply, View.read_apply]
  show _root_.cast _ (V m c (Pipeline.arrRef spec0 3) ((cfg0.win 3).arr.view.emb (((cfg0.win 3).rect t).emb _)))
    = _root_.cast _ (V m c (Pipeline.arrRef spec0 3) ((cfg0.win 3).arr.view.emb (((cfg0.win 3).rect t').emb _)))
  congr 3
  funext a; apply Fin.ext
  rw [Rect.emb_apply, Rect.emb_apply]
  show (cfg0.win 3).kind.off ((cfg0.win 3).index t a) ((cfg0.win 3).size a) + 1 * (j a).val
    = (cfg0.win 3).kind.off ((cfg0.win 3).index t' a) ((cfg0.win 3).size a) + 1 * (j a).val
  rw [h]
theorem b4_congr (c : Dev nD) {t t' : Fin cfg0.N} (h : (cfg0.win 4).index t = (cfg0.win 4).index t') : b4 m c t = b4 m c t' := by
  funext j
  show iblk m c 4 t j = iblk m c 4 t' j
  unfold iblk
  rw [View.read_apply, View.read_apply]
  show _root_.cast _ (V m c (Pipeline.arrRef spec0 4) ((cfg0.win 4).arr.view.emb (((cfg0.win 4).rect t).emb _)))
    = _root_.cast _ (V m c (Pipeline.arrRef spec0 4) ((cfg0.win 4).arr.view.emb (((cfg0.win 4).rect t').emb _)))
  congr 3
  funext a; apply Fin.ext
  rw [Rect.emb_apply, Rect.emb_apply]
  show (cfg0.win 4).kind.off ((cfg0.win 4).index t a) ((cfg0.win 4).size a) + 1 * (j a).val
    = (cfg0.win 4).kind.off ((cfg0.win 4).index t' a) ((cfg0.win 4).size a) + 1 * (j a).val
  rw [h]
theorem b5_congr (c : Dev nD) {t t' : Fin cfg0.N} (h : (cfg0.win 5).index t = (cfg0.win 5).index t') : b5 m c t = b5 m c t' := by
  funext j
  show iblk m c 5 t j = iblk m c 5 t' j
  unfold iblk
  rw [View.read_apply, View.read_apply]
  show _root_.cast _ (V m c (Pipeline.arrRef spec0 5) ((cfg0.win 5).arr.view.emb (((cfg0.win 5).rect t).emb _)))
    = _root_.cast _ (V m c (Pipeline.arrRef spec0 5) ((cfg0.win 5).arr.view.emb (((cfg0.win 5).rect t').emb _)))
  congr 3
  funext a; apply Fin.ext
  rw [Rect.emb_apply, Rect.emb_apply]
  show (cfg0.win 5).kind.off ((cfg0.win 5).index t a) ((cfg0.win 5).size a) + 1 * (j a).val
    = (cfg0.win 5).kind.off ((cfg0.win 5).index t' a) ((cfg0.win 5).size a) + 1 * (j a).val
  rw [h]
theorem b6_congr (c : Dev nD) {t t' : Fin cfg0.N} (h : (cfg0.win 6).index t = (cfg0.win 6).index t') : b6 m c t = b6 m c t' := by
  funext j
  show iblk m c 6 t j = iblk m c 6 t' j
  unfold iblk
  rw [View.read_apply, View.read_apply]
  show _root_.cast _ (V m c (Pipeline.arrRef spec0 6) ((cfg0.win 6).arr.view.emb (((cfg0.win 6).rect t).emb _)))
    = _root_.cast _ (V m c (Pipeline.arrRef spec0 6) ((cfg0.win 6).arr.view.emb (((cfg0.win 6).rect t').emb _)))
  congr 3
theorem b7_congr (c : Dev nD) {t t' : Fin cfg0.N} (h : (cfg0.win 7).index t = (cfg0.win 7).index t') : b7 m c t = b7 m c t' := by
  funext j
  show iblk m c 7 t j = iblk m c 7 t' j
  unfold iblk
  rw [View.read_apply, View.read_apply]
  show _root_.cast _ (V m c (Pipeline.arrRef spec0 7) ((cfg0.win 7).arr.view.emb (((cfg0.win 7).rect t).emb _)))
    = _root_.cast _ (V m c (Pipeline.arrRef spec0 7) ((cfg0.win 7).arr.view.emb (((cfg0.win 7).rect t').emb _)))
  congr 3
/-- Within a batch input 2's block does not move. -/
theorem b2_batch (c : Dev nD) {t t' : Fin cfg0.N} (h : t.val / 16 = t'.val / 16) : b2 m c t = b2 m c t' :=
  b2_congr m c ((index2 t).trans (by rw [h]; exact (index2 t').symm))
/-- Within a batch input 3's block does not move. -/
theorem b3_batch (c : Dev nD) {t t' : Fin cfg0.N} (h : t.val / 16 = t'.val / 16) : b3 m c t = b3 m c t' :=
  b3_congr m c ((index3 t).trans (by rw [h]; exact (index3 t').symm))
/-- Within a batch input 4's block does not move. -/
theorem b4_batch (c : Dev nD) {t t' : Fin cfg0.N} (h : t.val / 16 = t'.val / 16) : b4 m c t = b4 m c t' :=
  b4_congr m c ((index4 t).trans (by rw [h]; exact (index4 t').symm))
/-- Within a batch input 5's block does not move. -/
theorem b5_batch (c : Dev nD) {t t' : Fin cfg0.N} (h : t.val / 16 = t'.val / 16) : b5 m c t = b5 m c t' :=
  b5_congr m c ((index5 t).trans (by rw [h]; exact (index5 t').symm))
/-- Input 6's block is the same at every point. -/
theorem b6_const (c : Dev nD) (t t' : Fin cfg0.N) : b6 m c t = b6 m c t' := b6_congr m c ((index6 t).trans (index6 t').symm)
/-- Input 7's block is the same at every point. -/
theorem b7_const (c : Dev nD) (t t' : Fin cfg0.N) : b7 m c t = b7 m c t' := b7_congr m c ((index7 t).trans (index7 t').symm)

/-- What a point leaves in the fourth differential head's scores of the first half, -/
abbrev sAt (c : Dev nD) (t : Fin cfg0.N) : Vec F S256x4352 .f32 := sOf (b0 m c t) (b2 m c t)
/-- in that head's first attention, -/
abbrev mAt (c : Dev nD) (t : Fin cfg0.N) : Vec F S256x128 .f32 := mOf (b0 m c t) (b2 m c t) (vdxOf (b3 m c t))
/-- in the block of the first three heads, -/
abbrev odAt (c : Dev nD) (t : Fin cfg0.N) : Vec F S1x256x384 .bf16 := View.canon (odPieces (b0 m c t) (b2 m c t) (b6 m c t) (b7 m c t) (vdxOf (b3 m c t)))
/-- in the block of the other heads; -/
abbrev ogAt (c : Dev nD) (t : Fin cfg0.N) : Vec F S1x256x512 .bf16 := View.canon (ogPieces (b1 m c t) (b4 m c t) (vgxOf (b5 m c t)))
/-- and the last head's rows of a point's own tile, which a later point stores. -/
abbrev lastAt (c : Dev nD) (t : Fin cfg0.N) : FVec F S1x256x128 .bf16 := lastHead (b6 m c t) (b7 m c t) (vdxOf (b3 m c t)) (sAt m c t) (mAt m c t)

/-- The point of `t`'s batch whose tile holds row `r`. -/
def rowPt (t : Fin cfg0.N) (r : Fin 4096) : Fin cfg0.N :=
  ⟨16 * (t.val / 16) + r.val / 256, by have ht : t.val < 64 := Nat.lt_of_lt_of_eq t.isLt N_0; have hr := r.isLt; exact Nat.lt_of_lt_of_eq (by omega) N_0.symm⟩

/-- A row's position within its tile. -/
def rowIn (r : Fin 4096) : Fin 256 := ⟨r.val % 256, Nat.mod_lt _ (by norm_num)⟩

/-- At point `t` the third output's block holds the finished last head in every row of the tiles before `t`'s, and after a batch's last point in every row. -/
def Rows (c : Dev nD) (t : Fin cfg0.N) (X : Vec F S1x4096x128 .bf16) : Prop :=
  ∀ (r : Fin 4096) (n : Fin 128), r.val / 256 < t.val % 16 ∨ t.val % 16 = 15 → X (ix3 0 r n) = lastAt m c (rowPt t r) (ix3 0 (rowIn r) n)

/-- Nothing is asked of a batch's first point. -/
theorem rows_first (c : Dev nD) (t : Fin cfg0.N) (h : t.val % 16 = 0) (X : Vec F S1x4096x128 .bf16) : Rows m c t X := fun r n hr => by omega

/-- A point in the middle of a batch stores the rows of the tile before its own. -/
theorem rows_mid (c : Dev nD) (t t' : Fin cfg0.N) (ht : t'.val + 1 = t.val) (h0 : t.val % 16 ≠ 0) (X : Vec F S1x4096x128 .bf16) (hX : Rows m c t' X) :
    ∀ (r : Fin 4096) (n : Fin 128), r.val / 256 < t.val % 16 →
      putRows (k0_off1 (grid0.coords t)) (k0_off1_inb (grid0.coords t)) (lastAt m c t') X (ix3 0 r n) = lastAt m c (rowPt t r) (ix3 0 (rowIn r) n) := by
  intro r n hr
  have hb : t'.val / 16 = t.val / 16 := by omega
  by_cases hlt : r.val / 256 < t'.val % 16
  · rw [putRows_out _ _ _ _ (off1_eq t) (Or.inl (by show r.val < 256 * (t.val % 16 - 1); omega)), hX r n (Or.inl hlt)]
    have e : rowPt t' r = rowPt t r := Fin.ext (by show 16 * (t'.val / 16) + _ = 16 * (t.val / 16) + _; rw [hb])
    rw [e]
  · have e : rowPt t r = t' := Fin.ext (by show 16 * (t.val / 16) + r.val / 256 = t'.val; omega)
    rw [e]
    refine putRows_in _ _ _ _ _ (off1_eq t) fun a => ?_
    fin_cases a
    · rfl
    · show r.val = 256 * (t.val % 16 - 1) + r.val % 256; omega
    · show n.val = 0 + n.val; omega

/-- A batch's last point stores its own tile's rows too. -/
theorem rows_last (c : Dev nD) (t : Fin cfg0.N) (h1 : t.val % 16 = 15) (hc1 : Last (grid0.coords t)) (X : Vec F S1x4096x128 .bf16)
    (hX : ∀ (r : Fin 4096) (n : Fin 128), r.val / 256 < t.val % 16 → X (ix3 0 r n) = lastAt m c (rowPt t r) (ix3 0 (rowIn r) n)) :
    Rows m c t (putRows (k0_off2 (grid0.coords t)) (k0_off2_inb (grid0.coords t) hc1) (lastAt m c t) X) := by
  intro r n _
  by_cases hlt : r.val / 256 < t.val % 16
  · rw [putRows_out _ _ _ _ (off2_eq t) (Or.inl (by show r.val < 256 * (t.val % 16); omega)), hX r n hlt]
  · have hr := r.isLt
    have e : rowPt t r = t := Fin.ext (by show 16 * (t.val / 16) + r.val / 256 = t.val; omega)
    rw [e]
    refine putRows_in _ _ _ _ _ (off2_eq t) fun a => ?_
    fin_cases a
    · rfl
    · show r.val = 256 * (t.val % 16) + r.val % 256; omega
    · show n.val = 0 + n.val; omega

/-- Before the first point the scratch holds anything; after a point, what that point left. -/
def PhiS (c : Dev nD) : (n : ℕ) → n ≤ cfg0.N → sProp 𝕄
  | 0, _ => Pipeline.ΦA spec0 c
  | n + 1, hn => iprop(iprop(owns (c : Thread nD τ) vdx fullShare (vdxOf (b3 m c ⟨n, hn⟩)) ∗ owns (c : Thread nD τ) vgx fullShare (vgxOf (b5 m c ⟨n, hn⟩))
      ∗ owns (c : Thread nD τ) sbuf fullShare (sAt m c ⟨n, hn⟩) ∗ owns (c : Thread nD τ) mbuf fullShare (mAt m c ⟨n, hn⟩)) ∗ (∃ r, prngReg c r))

theorem PhiS_zero (c : Dev nD) (n : ℕ) (h : n ≤ cfg0.N) (hz : n = 0) : PhiS m c n h = Pipeline.ΦA spec0 c := by subst hz; rfl

theorem PhiS_succ (c : Dev nD) (t : Fin cfg0.N) :
    PhiS m c (t.val + 1) t.isLt = iprop(iprop(owns (c : Thread nD τ) vdx fullShare (vdxOf (b3 m c t)) ∗ owns (c : Thread nD τ) vgx fullShare (vgxOf (b5 m c t))
      ∗ owns (c : Thread nD τ) sbuf fullShare (sAt m c t) ∗ owns (c : Thread nD τ) mbuf fullShare (mAt m c t)) ∗ (∃ r, prngReg c r)) := rfl

theorem PhiS_pos (c : Dev nD) (n : ℕ) (h : n ≤ cfg0.N) (t' : Fin cfg0.N) (ht : t'.val + 1 = n) :
    PhiS m c n h = iprop(iprop(owns (c : Thread nD τ) vdx fullShare (vdxOf (b3 m c t')) ∗ owns (c : Thread nD τ) vgx fullShare (vgxOf (b5 m c t'))
      ∗ owns (c : Thread nD τ) sbuf fullShare (sAt m c t') ∗ owns (c : Thread nD τ) mbuf fullShare (mAt m c t')) ∗ (∃ r, prngReg c r)) := by subst ht; rfl

/-- The proof data: the arrays as the region finds them; each input's buffer left at its block, the two outputs at `odAt` and `ogAt`. -/
def dats (_ : Fin 1) (c : Dev nD) : Dat τ (Elt F) Unit ℕ (UR sig nD τ) ℕ cfg0 c where
  A w := V m c (Pipeline.arrRef spec0 w)
  after w t := match w with
    | ⟨0, _⟩ => b0 m c t
    | ⟨1, _⟩ => b1 m c t
    | ⟨2, _⟩ => b2 m c t
    | ⟨3, _⟩ => b3 m c t
    | ⟨4, _⟩ => b4 m c t
    | ⟨5, _⟩ => b5 m c t
    | ⟨6, _⟩ => b6 m c t
    | ⟨7, _⟩ => b7 m c t
    | ⟨8, _⟩ => odAt m c t
    | ⟨9, _⟩ => ogAt m c t
    | ⟨10, _⟩ => Dat.unnamed 10 t
  Φ t := PhiS m c t.val (Nat.le_of_lt_succ t.isLt)
  q _ := fullShare
  owed _ := 0

/-- Only the third output is held to a predicate. -/
def fgt (w : Fin cfg0.W) : Bool := match w with
  | ⟨10, _⟩ => true
  | _ => false

/-- That predicate. -/
def Rl (c : Dev nD) (w : Fin cfg0.W) (t : Fin cfg0.N) : ((cfg0.win w).block.Idx → Elt F (cfg0.win w).elt) → Prop := match w with
  | ⟨10, _⟩ => fun X => Rows m c t X
  | _ => fun _ => True

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = b0 m c t := by dsimp only [dats]
theorem after_1 (c : Dev nD) (t : Fin cfg0.N) : (dats m 0 c).after 1 t = b1 m c t := by dsimp only [dats]
theorem after_2 (c : Dev nD) (t : Fin cfg0.N) : (dats m 0 c).after 2 t = b2 m c t := by dsimp only [dats]
theorem after_3 (c : Dev nD) (t : Fin cfg0.N) : (dats m 0 c).after 3 t = b3 m c t := by dsimp only [dats]
theorem after_4 (c : Dev nD) (t : Fin cfg0.N) : (dats m 0 c).after 4 t = b4 m c t := by dsimp only [dats]
theorem after_5 (c : Dev nD) (t : Fin cfg0.N) : (dats m 0 c).after 5 t = b5 m c t := by dsimp only [dats]
theorem after_6 (c : Dev nD) (t : Fin cfg0.N) : (dats m 0 c).after 6 t = b6 m c t := by dsimp only [dats]
theorem after_7 (c : Dev nD) (t : Fin cfg0.N) : (dats m 0 c).after 7 t = b7 m c t := by dsimp only [dats]
theorem after_8 (c : Dev nD) (t : Fin cfg0.N) : (dats m 0 c).after 8 t = odAt m c t := by dsimp only [dats]
theorem after_9 (c : Dev nD) (t : Fin cfg0.N) : (dats m 0 c).after 9 t = ogAt m c t := by dsimp only [dats]
theorem before_0 (c : Dev nD) (t : Fin cfg0.N) (d) : (dats m 0 c).before 0 t d = b0 m c t := before0_0_of m (dats m 0 c) (A_eq m c 0) (after_0 m c) t d
theorem before_1 (c : Dev nD) (t : Fin cfg0.N) (d) : (dats m 0 c).before 1 t d = b1 m c t := before0_1_of m (dats m 0 c) (A_eq m c 1) (after_1 m c) t d
theorem before_2 (c : Dev nD) (t : Fin cfg0.N) (d) : (dats m 0 c).before 2 t d = b2 m c t := before0_2_of m (dats m 0 c) (A_eq m c 2) (after_2 m c) t d
theorem before_3 (c : Dev nD) (t : Fin cfg0.N) (d) : (dats m 0 c).before 3 t d = b3 m c t := before0_3_of m (dats m 0 c) (A_eq m c 3) (after_3 m c) t d
theorem before_4 (c : Dev nD) (t : Fin cfg0.N) (d) : (dats m 0 c).before 4 t d = b4 m c t := before0_4_of m (dats m 0 c) (A_eq m c 4) (after_4 m c) t d
theorem before_5 (c : Dev nD) (t : Fin cfg0.N) (d) : (dats m 0 c).before 5 t d = b5 m c t := before0_5_of m (dats m 0 c) (A_eq m c 5) (after_5 m c) t d
theorem before_6 (c : Dev nD) (t : Fin cfg0.N) (d) : (dats m 0 c).before 6 t d = b6 m c t := before0_6_of m (dats m 0 c) (A_eq m c 6) (after_6 m c) t d
theorem before_7 (c : Dev nD) (t : Fin cfg0.N) (d) : (dats m 0 c).before 7 t d = b7 m c t := before0_7_of m (dats m 0 c) (A_eq m c 7) (after_7 m c) t d

/-- What a later point of a batch finds in the third output's buffer is what the point before left there. -/
theorem found (c : Dev nD) (t t' : Fin cfg0.N) (ht : t'.val + 1 = t.val) (h0 : t.val % 16 ≠ 0) (X : Vec F S1x4096x128 .bf16)
    (hX : ((dats m 0 c).toRRel fgt (Rl m c)).Finds 10 t X) : Rows m c t' X := by
  have h' := (RDat.finds_of_pos ((dats m 0 c).toRRel fgt (Rl m c)) (w := 10) (t := t) rfl (by omega) X).mp hX
  have e : (⟨t.val - 1, Nat.lt_of_le_of_lt (Nat.sub_le _ _) t.isLt⟩ : Fin cfg0.N) = t' := Fin.ext (by show t.val - 1 = t'.val; omega)
  rw [e] at h'
  rcases h' with h | h
  · exact absurd ((flush0_10 t').mp h) (by omega)
  · exact (dats m 0 c).toRRel_leaves (Rl := Rl m c) (w := 10) (h := rfl) h

end Cert.KernelIdeal.Attn

end
-- ==== Proof.Sound.lean ====
/-
  The body at every point of the grid leaves what `Data` says.
-/
module

public import proofs.«01_k».proof.Proof.Data

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ Y, ⌜((dats m 0 c).toRRel fgt (Rl m c)).Finds 10 t Y⌝ ∗ owns (c : Thread nD τ) (st10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ (∃ X, ⌜Rows m c t X⌝ ∗ owns (c : Thread nD τ) (st10 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ]
  by_cases h0 : t.val % 16 = 0
  · have h1 : ¬ t.val % 16 = 15 := by omega
    have hin : (dats m 0 c).Φ t.castSucc ⊢ iprop(iprop((∃ d, owns (c : Thread nD τ) vdx fullShare d) ∗ (∃ d, owns (c : Thread nD τ) vgx fullShare d) ∗ (∃ d, owns (c : Thread nD τ) sbuf fullShare d) ∗ (∃ d, owns (c : Thread nD τ) mbuf fullShare d)) ∗ (∃ r, prngReg c r)) := by
      rw [PhiS_castSucc m c t]
      by_cases hz : t.val = 0
      · rw [PhiS_zero m c _ _ hz, ΦA_eq]
      · rw [PhiS_pos m c _ _ ⟨t.val - 1, by omega⟩ (by show t.val - 1 + 1 = t.val; omega)]
        iintro ⟨⟨HS0, HS1, HS2, HS3⟩, Hg⟩
        isplitl [HS0 HS1 HS2 HS3]
        · isplitl [HS0]; · iexists _; iexact HS0
          isplitl [HS1]; · iexists _; iexact HS1
          isplitl [HS2]; · iexists _; iexact HS2
          iexists _; iexact HS3
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩⟩
    ihave HΦ := hin $$ HΦ
    icases HΦ with ⟨⟨HS0, HS1, HS2, HS3⟩, Hg⟩
    iapply (bodyA (F := F) c (grid0.coords t) _ _ _ _ _ _ _ _ _ _ _ _ _ _ _ _ _ _ _ _ _ _ _ _ _ _ _ _ _ _ ((first_iff t).mpr h0) (fun h => h1 ((last_iff t).mp h)) (b0 m c t) (b1 m c t) (b2 m c t) (b3 m c t) (b4 m c t) (b5 m c t) (b6 m c t) (b7 m c t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, ⟨%X, H10⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; isplitr
    swap; · iexact H10
    ipureintro; exact rows_first m c t h0 _
  · obtain ⟨t', ht⟩ : ∃ t' : Fin cfg0.N, t'.val + 1 = t.val := ⟨⟨t.val - 1, by omega⟩, by show t.val - 1 + 1 = t.val; omega⟩
    have hb : t'.val / 16 = t.val / 16 := by omega
    have hl : lastHead (b6 m c t) (b7 m c t) (vdxOf (b3 m c t)) (sAt m c t') (mAt m c t') = lastAt m c t' := by
      rw [b6_const m c t t', b7_const m c t t', ← b3_batch m c hb]
    rw [PhiS_castSucc m c t, PhiS_pos m c _ _ t' ht, b3_batch m c hb, b5_batch m c hb]
    by_cases h1 : t.val % 16 = 15
    · have hfin : ∀ Y, ((dats m 0 c).toRRel fgt (Rl m c)).Finds 10 t Y →
          Rows m c t (putRows (k0_off2 (grid0.coords t)) (k0_off2_inb (grid0.coords t) ((last_iff t).mpr h1)) (lastAt m c t)
            (putRows (k0_off1 (grid0.coords t)) (k0_off1_inb (grid0.coords t)) (lastHead (b6 m c t) (b7 m c t) (vdxOf (b3 m c t)) (sAt m c t') (mAt m c t')) Y)) := by
        intro Y hY; rw [hl]
        exact rows_last m c t h1 ((last_iff t).mpr h1) _ (rows_mid m c t t' ht h0 Y (found m c t t' ht h0 Y hY))
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩⟩
      iapply (bodyC (F := F) c (grid0.coords t) _ _ _ _ _ _ _ _ _ _ _ _ _ _ _ _ _ _ _ _ _ _ _ _ _ _ _ _ _ _ (fun h => h0 ((first_iff t).mp h)) ((last_iff t).mpr h1) (b0 m c t) (b1 m c t) (b2 m c t) (b3 m c t) (b4 m c t) (b5 m c t) (b6 m c t) (b7 m c t) Y (vdxOf (b3 m c t)) (vgxOf (b5 m c t)) (sAt m c t') (mAt m c t') Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; isplitr
      swap; · iexact H10
      ipureintro; exact hfin Y hY
    · have hfin : ∀ Y, ((dats m 0 c).toRRel fgt (Rl m c)).Finds 10 t Y →
          Rows m c t (putRows (k0_off1 (grid0.coords t)) (k0_off1_inb (grid0.coords t)) (lastHead (b6 m c t) (b7 m c t) (vdxOf (b3 m c t)) (sAt m c t') (mAt m c t')) Y) := by
        intro Y hY r n hr; rw [hl]
        exact rows_mid m c t t' ht h0 Y (found m c t t' ht h0 Y hY) r n (hr.resolve_right h1)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩⟩
      iapply (bodyB (F := F) c (grid0.coords t) _ _ _ _ _ _ _ _ _ _ _ _ _ _ _ _ _ _ _ _ _ _ _ _ _ _ _ _ _ _ (fun h => h0 ((first_iff t).mp h)) (fun h => h1 ((last_iff t).mp h)) (b0 m c t) (b1 m c t) (b2 m c t) (b3 m c t) (b4 m c t) (b5 m c t) (b6 m c t) (b7 m c t) Y (vdxOf (b3 m c t)) (vgxOf (b5 m c t)) (sAt m c t') (mAt m c t') Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; isplitr
      swap; · iexact H10
      ipureintro; exact hfin Y hY

end Cert.KernelIdeal.Attn

end
-- ==== Proof.Launch.lean ====
/-
  The launch: the attention's program runs to completion, its arrays are then what the proof data say, and the arguments are unchanged.
-/
module

public import proofs.«01_k».proof.Proof.Sound

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data with the third output held to `Rows`. -/
abbrev rdat (c : Dev nD) : RDat τ (Elt F) Unit ℕ (UR sig nD τ) ℕ cfg0 c := (dats m 0 c).toRRel fgt (Rl m c)

theorem defs₀_row (t : Fin cfg0.N) : defs₀ (F := F) .tc cfg0.body (cfg0.bodyArgs t (cfg0.slots t)) = bodyAt0 t := by
  unfold defs₀; rw [Defs.onTc_tc]

theorem obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 64 := N_0
  rw [show (dats m 0 c).Φ (Fin.last cfg0.N) = PhiS m c cfg0.N (Nat.le_refl _) from rfl,
    PhiS_pos m c _ _ ⟨63, by rw [hN]; norm_num⟩ (by show 63 + 1 = cfg0.N; rw [hN]), ΦA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The program ends with every array as the proof data allow, every other buffer as the region found it, and every counter at zero. -/
theorem run_quiescent : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (obligation m c).toRRel) (hshare := fun c => (dats m 0 c).share_full fun _ => rfl)
    (howed := fun _ _ => rfl) (V := V m) (hmain := hmain m Variants.none) (hA := A_eq m) (hin := hin m) (hout := hout m) (hQ' := fun _ h => h)

/-- The arguments end unchanged. -/
theorem unchanged_of (r) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   (RDat.FramePost.arr_in h c 6 rfl).trans ((A_eq m c 6).trans (V_main_arg10 m c)),
   ((h c).2 main_arg11 (Pipeline.mem_restRefs_of main_arg11 (by decide) (by decide))).trans (V_main_arg11 m c)⟩

/-- The frame, at any values. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => unchanged_of m r h.1 c, h.2⟩) (run_quiescent m ρ)

end Cert.KernelIdeal.Attn

end
-- ==== Proof.Words.lean ====
module
public import proofs.«01_k».proof.Defs
public import proofs.«01_k».proof.Proof.Launch
public import proofs.«01_k».proof.Proof.Gen.Kernel

/-!
# The program at words is the program read over any float, at words

The two texts differ in one constant: where the program read over any float names it, the program at
words writes its bits. At words, take the name to stand for those bits: then the bodies, the tables of
bodies and the launches are the same, and the run that is proved over any float is the run at words.
-/

@[expose] public section

namespace Cert.Proof

open Idealize.ShloMosaic Idealize.SL.Sem

/-- At words a named constant is the bits it was printed with. -/
@[reducible] def named_bits : Named Bits := ⟨fun _ _ _ b => Scalar.ofBits _ b⟩

local instance : Named Bits := named_bits

set_option maxRecDepth 100000 in
/-- The attention's body, in the two texts. -/
theorem attention_eq :
    @Cert.Kernel.cc0_attention Bits _ _ = @Cert.KernelIdeal.cc0_attention Bits _ _ _ := rfl

set_option maxRecDepth 100000 in
set_option maxHeartbeats 4000000 in
/-- The tables of bodies, in the two texts. -/
theorem bodies_eq : Cert.Kernel.defs₀ (F := Bits) = Cert.KernelIdeal.defs₀ (F := Bits) := by
  unfold Cert.Kernel.defs₀ Cert.KernelIdeal.defs₀
  rw [attention_eq]
  congr 1
  funext l a
  obtain ⟨l, hl⟩ := l
  match l with
  | 0 =>
    obtain ⟨t, s⟩ := a
    dsimp only
    rfl
  | n + 1 => exact absurd hl (by omega)

/-- The tables with the launch, in the two texts. -/
theorem defs_eq : Cert.Kernel.defs (F := Bits) = Cert.KernelIdeal.defs (F := Bits) := by
  unfold Cert.Kernel.defs Cert.KernelIdeal.defs
  rw [bodies_eq]
  rfl

/-- The program at words ends with nothing waiting and its arguments as they were. -/
theorem frame_kernel : Cert.quiescent_Kernel := fun m ρ _ => by
  rw [defs_eq]
  exact Cert.KernelIdeal.Attn.run_main (F := Bits) m ρ

end Cert.Proof

end
-- ==== Proof.Words2.lean ====
module
public import proofs.«01_k».proof.Defs
public import proofs.«01_k».proof.Proof.Gen.Kernel2
public import proofs.«01_k».proof.Proof.Gen.Kernel3
public import proofs.«01_k».proof.Proof.Gen.Kernel2Ideal.Frame
public import proofs.«01_k».proof.Proof.Gen.Kernel3Ideal.Frame

/-!
# The feed-forward's and the merge's programs at words are the programs read over any float, at words

Nothing was rewritten in either, so the bodies, the tables of bodies and the launches are the same, and the
run proved over any float is the run at words.
-/

@[expose] public section

namespace Cert.Proof

open Idealize.ShloMosaic Idealize.SL.Sem

set_option maxRecDepth 100000 in
/-- The feed-forward's body, in the two texts. -/
theorem body2_eq : @Cert.Kernel2.cc0_mlp Bits _ _ = @Cert.Kernel2Ideal.cc0_mlp Bits _ _ := rfl

set_option maxRecDepth 100000 in
set_option maxHeartbeats 4000000 in
/-- The feed-forward's tables of bodies, in the two texts. -/
theorem bodies2_eq : Cert.Kernel2.defs₀ (F := Bits) = Cert.Kernel2Ideal.defs₀ (F := Bits) := by
  unfold Cert.Kernel2.defs₀ Cert.Kernel2Ideal.defs₀
  rw [body2_eq]
  congr 1
  funext l a
  obtain ⟨l, hl⟩ := l
  match l with
  | 0 =>
    obtain ⟨t, s⟩ := a
    dsimp only
    rfl
  | n + 1 => exact absurd hl (by omega)

/-- The feed-forward's tables with the launch, in the two texts. -/
theorem defs2_eq : Cert.Kernel2.defs (F := Bits) = Cert.Kernel2Ideal.defs (F := Bits) := by
  unfold Cert.Kernel2.defs Cert.Kernel2Ideal.defs
  rw [bodies2_eq]
  rfl

/-- The feed-forward's program at words ends with nothing waiting and its arguments as they were. -/
theorem frame_kernel2 : Cert.quiescent_Kernel2 := fun m ρ _ => by
  rw [defs2_eq]
  exact Cert.Kernel2Ideal.Gen.frame (F := Bits) m ρ

set_option maxRecDepth 100000 in
/-- The merge's body, in the two texts. -/
theorem body3_eq : @Cert.Kernel3.cc0_merge Bits _ _ = @Cert.Kernel3Ideal.cc0_merge Bits _ _ := rfl

set_option maxRecDepth 100000 in
set_option maxHeartbeats 4000000 in
/-- The merge's tables of bodies, in the two texts. -/
theorem bodies3_eq : Cert.Kernel3.defs₀ (F := Bits) = Cert.Kernel3Ideal.defs₀ (F := Bits) := by
  unfold Cert.Kernel3.defs₀ Cert.Kernel3Ideal.defs₀
  rw [body3_eq]
  congr 1
  funext l a
  obtain ⟨l, hl⟩ := l
  match l with
  | 0 =>
    obtain ⟨t, s⟩ := a
    dsimp only
    rfl
  | n + 1 => exact absurd hl (by omega)

/-- The merge's tables with the launch, in the two texts. -/
theorem defs3_eq : Cert.Kernel3.defs (F := Bits) = Cert.Kernel3Ideal.defs (F := Bits) := by
  unfold Cert.Kernel3.defs Cert.Kernel3Ideal.defs
  rw [bodies3_eq]
  rfl

/-- The merge's program at words ends with nothing waiting and its arguments as they were. -/
theorem frame_kernel3 : Cert.quiescent_Kernel3 := fun m ρ _ => by
  rw [defs3_eq]
  exact Cert.Kernel3Ideal.Gen.frame (F := Bits) m ρ

end Cert.Proof

end
-- ==== Proof.Math.lean ====
/-
  One softmax against its values over finite entries, written twice: with powers of two of scaled scores and the quotient taken after
  the sums, and with exponentials of the scores over eight and the quotient taken first. Both are one real number. No program here.
-/
module

public import Idealize.ShloMosaic.PureOps.Ideal.Laws

@[expose] public section

noncomputable section

namespace Cert.Attn

open Idealize.ShloMosaic
open scoped BigOperators

/-- The factor that turns a score into an exponent of two: one over `8 ln 2`. -/
def kap : EReal := (((8 * Real.log 2)⁻¹ : ℝ) : EReal)

/-- The score of a query against a key, over real entries. -/
def score {D : ℕ} (q k : Fin D → ℝ) : ℝ := ∑ d, q d * k d

/-- The weighted mean of the values, a key's weight the exponential of its score over eight. -/
def att {N : ℕ} (s v : Fin N → ℝ) : ℝ := (∑ x, Real.exp (s x / 8) * v x) / ∑ x, Real.exp (s x / 8)

/-- Scaled scores, as the kernel forms them. -/
def scoreK {D N : ℕ} (q : Fin D → EReal) (k : Fin N → Fin D → EReal) (x : Fin N) : EReal := ∑ d, q d * kap * k x d

/-- The power of two of a score less the largest. -/
def powK {N : ℕ} (s : Fin N → EReal) (x : Fin N) : EReal := Ideal.exp2 (s x - Finset.univ.fold max ⊥ s)

/-- The kernel's softmax against values. -/
def headK {D N : ℕ} (q : Fin D → EReal) (k : Fin N → Fin D → EReal) (v : Fin N → EReal) : EReal :=
  Ideal.div (∑ x, powK (scoreK q k) x * v x) (∑ x, powK (scoreK q k) x)

/-- Scores over eight, as the reference forms them. -/
def scoreR {D N : ℕ} (q : Fin D → EReal) (k : Fin N → Fin D → EReal) (x : Fin N) : EReal := (∑ d, q d * k x d) * ((1 / 8 : ℝ) : EReal)

/-- The exponential of a score less the largest. -/
def expR {N : ℕ} (s : Fin N → EReal) (x : Fin N) : EReal := Ideal.exp (s x - max ⊥ (Finset.univ.fold max ⊥ s))

/-- The reference's softmax. -/
def weightR {D N : ℕ} (q : Fin D → EReal) (k : Fin N → Fin D → EReal) (x : Fin N) : EReal :=
  Ideal.div (expR (scoreR q k) x) (∑ y, expR (scoreR q k) y)

/-- A sum of reals, read among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The largest of finitely many reals, at least one of them, is a real. -/
theorem fold_real {ι : Type*} (s : Finset ι) (f : ι → ℝ) (h : s.Nonempty) : ∃ M : ℝ, s.fold max (⊥ : EReal) (fun i => ((f i : ℝ) : EReal)) = (M : EReal) := by
  classical
  induction s using Finset.induction_on with
  | empty => exact absurd h (by simp)
  | insert a s ha ih =>
    rw [Finset.fold_insert ha]
    rcases s.eq_empty_or_nonempty with hs | hs
    · subst hs
      exact ⟨f a, by simp⟩
    · obtain ⟨M, hM⟩ := ih hs
      exact ⟨max (f a) M, by rw [hM]; exact (EReal.coe_strictMono.monotone.map_max).symm⟩

/-- The kernel's scores over finite entries. -/
theorem scoreK_coe {D N : ℕ} (q : Fin D → ℝ) (k : Fin N → Fin D → ℝ) (x : Fin N) :
    scoreK (fun d => ((q d : ℝ) : EReal)) (fun x d => ((k x d : ℝ) : EReal)) x = ((score q (k x) * (8 * Real.log 2)⁻¹ : ℝ) : EReal) := by
  unfold scoreK kap score
  simp only [← EReal.coe_mul]
  rw [coe_sum, Finset.sum_mul]
  exact congrArg _ (Finset.sum_congr rfl fun d _ => by ring)

/-- The reference's scores over finite entries. -/
theorem scoreR_coe {D N : ℕ} (q : Fin D → ℝ) (k : Fin N → Fin D → ℝ) (x : Fin N) :
    scoreR (fun d => ((q d : ℝ) : EReal)) (fun x d => ((k x d : ℝ) : EReal)) x = ((score q (k x) * (1 / 8) : ℝ) : EReal) := by
  unfold scoreR score
  simp only [← EReal.coe_mul]
  rw [coe_sum, ← EReal.coe_mul]

/-- A power of two of a scaled score is an exponential of the score over eight, up to the factor of the largest. -/
theorem rpow_eq (s M : ℝ) : Real.rpow 2 (s * (8 * Real.log 2)⁻¹ - M) = Real.exp (s / 8) * Real.exp (-(M * Real.log 2)) := by
  have h2 : Real.log 2 ≠ 0 := (Real.log_pos (by norm_num)).ne'
  rw [← Real.exp_add]
  show (2 : ℝ) ^ (s * (8 * Real.log 2)⁻¹ - M) = _
  rw [Real.rpow_def_of_pos (by norm_num)]
  congr 1
  field_simp
  ring

/-- The exponentials' sum is positive. -/
theorem sum_exp_pos {N : ℕ} (hN : 0 < N) (s : Fin N → ℝ) : 0 < ∑ x, Real.exp (s x / 8) := by
  haveI : Nonempty (Fin N) := ⟨⟨0, hN⟩⟩
  exact Finset.sum_pos (fun x _ => Real.exp_pos _) Finset.univ_nonempty

/-- The kernel's head over finite entries is the weighted mean. -/
theorem headK_coe {D N : ℕ} (hN : 0 < N) (q : Fin D → ℝ) (k : Fin N → Fin D → ℝ) (v : Fin N → ℝ) :
    headK (fun d => ((q d : ℝ) : EReal)) (fun x d => ((k x d : ℝ) : EReal)) (fun x => ((v x : ℝ) : EReal))
      = ((att (fun x => score q (k x)) v : ℝ) : EReal) := by
  haveI : Nonempty (Fin N) := ⟨⟨0, hN⟩⟩
  unfold headK powK
  simp only [funext (scoreK_coe q k)]
  obtain ⟨M, hM⟩ := fold_real (Finset.univ : Finset (Fin N)) (fun x => score q (k x) * (8 * Real.log 2)⁻¹) Finset.univ_nonempty
  simp only [hM, ← EReal.coe_sub, Ideal.exp2_coe, rpow_eq]
  simp only [← EReal.coe_mul]
  rw [coe_sum, coe_sum]
  have hp := sum_exp_pos hN (fun x => score q (k x))
  have he := Real.exp_pos (-(M * Real.log 2))
  rw [Ideal.div_coe (by rw [← Finset.sum_mul]; positivity), ← EReal.coe_mul]
  congr 1
  unfold att
  rw [← Finset.sum_mul]
  have : ∀ x, Real.exp (score q (k x) / 8) * Real.exp (-(M * Real.log 2)) * v x = Real.exp (score q (k x) / 8) * v x * Real.exp (-(M * Real.log 2)) :=
    fun x => by ring
  simp only [this]
  rw [← Finset.sum_mul]
  field_simp

/-- The reference's weight over finite entries. -/
theorem weightR_coe {D N : ℕ} (hN : 0 < N) (q : Fin D → ℝ) (k : Fin N → Fin D → ℝ) (x : Fin N) :
    weightR (fun d => ((q d : ℝ) : EReal)) (fun x d => ((k x d : ℝ) : EReal)) x
      = ((Real.exp (score q (k x) / 8) / ∑ y, Real.exp (score q (k y) / 8) : ℝ) : EReal) := by
  haveI : Nonempty (Fin N) := ⟨⟨0, hN⟩⟩
  unfold weightR expR
  simp only [funext (scoreR_coe q k)]
  obtain ⟨M, hM⟩ := fold_real (Finset.univ : Finset (Fin N)) (fun x => score q (k x) * (1 / 8)) Finset.univ_nonempty
  have hb : max (⊥ : EReal) (M : EReal) = (M : EReal) := max_eq_right bot_le
  have hs : ∀ y, Real.exp (score q (k y) * (1 / 8) - M) = Real.exp (score q (k y) / 8) * Real.exp (-M) := fun y => by
    rw [← Real.exp_add]; congr 1; ring
  simp only [hM, hb, ← EReal.coe_sub, Ideal.exp_coe, hs]
  rw [coe_sum]
  have hp := sum_exp_pos hN (fun x => score q (k x))
  have he := Real.exp_pos (-M)
  rw [Ideal.div_coe (by rw [← Finset.sum_mul]; positivity), ← EReal.coe_mul]
  congr 1
  rw [← Finset.sum_mul]
  field_simp

/-- The values against the reference's weights are the weighted mean. -/
theorem sumR_coe {D N : ℕ} (hN : 0 < N) (q : Fin D → ℝ) (k : Fin N → Fin D → ℝ) (v : Fin N → ℝ) :
    (∑ x, ((v x : ℝ) : EReal) * weightR (fun d => ((q d : ℝ) : EReal)) (fun x d => ((k x d : ℝ) : EReal)) x)
      = ((att (fun x => score q (k x)) v : ℝ) : EReal) := by
  simp only [weightR_coe hN, ← EReal.coe_mul]
  rw [coe_sum]
  congr 1
  unfold att
  rw [Finset.sum_div]
  exact Finset.sum_congr rfl fun x _ => by ring

/-- The kernel's head is the values against the reference's weights. -/
theorem head_eq {D N : ℕ} (hN : 0 < N) (q : Fin D → ℝ) (k : Fin N → Fin D → ℝ) (v : Fin N → ℝ) :
    headK (fun d => ((q d : ℝ) : EReal)) (fun x d => ((k x d : ℝ) : EReal)) (fun x => ((v x : ℝ) : EReal))
      = ∑ x, ((v x : ℝ) : EReal) * weightR (fun d => ((q d : ℝ) : EReal)) (fun x d => ((k x d : ℝ) : EReal)) x :=
  (headK_coe hN q k v).trans (sumR_coe hN q k v).symm

/-- A head less `l` times another is the values against the differences of the weights. -/
theorem diff_eq {D N : ℕ} (hN : 0 < N) (q0 q1 : Fin D → ℝ) (k0 k1 : Fin N → Fin D → ℝ) (v : Fin N → ℝ) (l : ℝ) :
    headK (fun d => ((q0 d : ℝ) : EReal)) (fun x d => ((k0 x d : ℝ) : EReal)) (fun x => ((v x : ℝ) : EReal))
        - (l : EReal) * headK (fun d => ((q1 d : ℝ) : EReal)) (fun x d => ((k1 x d : ℝ) : EReal)) (fun x => ((v x : ℝ) : EReal))
      = ∑ x, ((v x : ℝ) : EReal) * (weightR (fun d => ((q0 d : ℝ) : EReal)) (fun x d => ((k0 x d : ℝ) : EReal)) x
          - (l : EReal) * weightR (fun d => ((q1 d : ℝ) : EReal)) (fun x d => ((k1 x d : ℝ) : EReal)) x) := by
  rw [headK_coe hN, headK_coe hN]
  simp only [weightR_coe hN, ← EReal.coe_mul, ← EReal.coe_sub]
  rw [coe_sum]
  congr 1
  unfold att
  rw [Finset.sum_div, Finset.sum_div, Finset.mul_sum, ← Finset.sum_sub_distrib]
  exact Finset.sum_congr rfl fun x _ => by ring

/-- `exp (a·b) − exp (c·d) + e` over finite entries, `e` real, is real. -/
theorem lam_real {D : ℕ} (a b c d : Fin D → ℝ) (e : ℝ) :
    ∃ l : ℝ, Ideal.exp (∑ x, ((a x : ℝ) : EReal) * ((b x : ℝ) : EReal)) - Ideal.exp (∑ x, ((c x : ℝ) : EReal) * ((d x : ℝ) : EReal)) + (e : EReal) = (l : EReal) := by
  refine ⟨Real.exp (∑ x, a x * b x) - Real.exp (∑ x, c x * d x) + e, ?_⟩
  simp only [← EReal.coe_mul]
  rw [coe_sum, coe_sum, Ideal.exp_coe, Ideal.exp_coe, ← EReal.coe_sub, ← EReal.coe_add]

/-- The pattern of 1/8. -/
theorem bits_eighth : Ideal.ofBits .f32 0x3E000000#32 = ((1 / 8 : ℝ) : EReal) := by
  simp [Ideal.ofBits, Ideal.ieee, -EReal.coe_mul]; norm_num

/-- The pattern of −∞. -/
theorem bits_bot : Ideal.ofBits .f32 0xFF800000#32 = ⊥ := by simp [Ideal.ofBits, Ideal.ieee]

/-- The pattern of +∞. -/
theorem bits_top : Ideal.ofBits .f32 0x7F800000#32 = ⊤ := by simp [Ideal.ofBits, Ideal.ieee]

/-- The pattern of the constant λ starts from is a real's. -/
theorem bits_fifth : ∃ e : ℝ, Ideal.ofBits .f32 0x3E4CCCCD#32 = (e : EReal) := by
  simp [Ideal.ofBits, Ideal.ieee, -EReal.coe_mul]

end Cert.Attn

end
-- ==== Proof.RefRead.lean ====
/-
  The reference's results read at an index: every entry as a formula over entries of the arguments.
-/
module

public import proofs.«01_k».proof.Proof.Gen.ReferenceIdeal.Read
public import proofs.«01_k».proof.Proof.Math
public import Idealize.ShloMosaic.Lib.Pointwise

@[expose] public section

set_option maxRecDepth 16384

noncomputable section

namespace Cert.Attn

open Idealize.ShloMosaic Cert.ReferenceIdeal Cert.ReferenceIdeal.Read

/-- The differential heads' keys, the latents' first and the context's after. -/
def keyD (dk : S4x4096x4x2x64.Idx → EReal) (cdk : S4x256x4x2x64.Idx → EReal) (b : Fin 4) (h : Fin 4) (i : Fin 2) (x : Fin 4352) (d : Fin 64) : EReal :=
  if hx : (x : ℕ) < 4096 then dk (ix5 b ⟨x, hx⟩ h i d) else cdk (ix5 b ⟨x - 4096, by omega⟩ h i d)

/-- The differential heads' values, the latents' first and the context's after. -/
def valD (dv : S4x4096x4x128.Idx → EReal) (cdv : S4x256x4x128.Idx → EReal) (b : Fin 4) (h : Fin 4) (n : Fin 128) (x : Fin 4352) : EReal :=
  if hx : (x : ℕ) < 4096 then dv (ix4 b ⟨x, hx⟩ h n) else cdv (ix4 b ⟨x - 4096, by omega⟩ h n)

/-- The grouped heads' keys, the latents' first and the context's after. -/
def keyG (gk : S4x4096x2x64.Idx → EReal) (cgk : S4x256x2x64.Idx → EReal) (b : Fin 4) (g : Fin 2) (x : Fin 4352) (d : Fin 64) : EReal :=
  if hx : (x : ℕ) < 4096 then gk (ix4 b ⟨x, hx⟩ g d) else cgk (ix4 b ⟨x - 4096, by omega⟩ g d)

/-- The grouped heads' values, the latents' first and the context's after. -/
def valG (gv : S4x4096x2x64.Idx → EReal) (cgv : S4x256x2x64.Idx → EReal) (b : Fin 4) (g : Fin 2) (d : Fin 64) (x : Fin 4352) : EReal :=
  if hx : (x : ℕ) < 4096 then gv (ix4 b ⟨x, hx⟩ g d) else cgv (ix4 b ⟨x - 4096, by omega⟩ g d)

/-- λ, from its four vectors. -/
def lamOf (x10 : S4x64.Idx → EReal) : EReal :=
  Ideal.exp (∑ d : Fin 64, x10 (ix2 0 d) * x10 (ix2 1 d)) - Ideal.exp (∑ d : Fin 64, x10 (ix2 2 d) * x10 (ix2 3 d)) + Ideal.ofBits .f32 0x3E4CCCCD#32

/-- A row of 128 over the root of its mean square, times the gains, times four fifths. -/
def normed (o : Fin 128 → EReal) (g : Fin 128 → EReal) (n : Fin 128) : EReal :=
  o n * Ideal.rsqrt (Ideal.div (∑ n', o n' * o n') (Ideal.ofBits .f32 0x43000000#32) + Ideal.ofBits .f32 0x358637BD#32) * g n * Ideal.ofBits .f32 0x3F4CCCCD#32

section
variable (x0 x2 : (⟨S4x4096x4x2x64, .f32⟩ : BufTy).Contents (Elt Ideal)) (x1 : (⟨S4x4096x2x4x64, .f32⟩ : BufTy).Contents (Elt Ideal))
  (x3 : (⟨S4x4096x4x128, .f32⟩ : BufTy).Contents (Elt Ideal)) (x4 x5 : (⟨S4x4096x2x64, .f32⟩ : BufTy).Contents (Elt Ideal))
  (x6 : (⟨S4x256x4x2x64, .f32⟩ : BufTy).Contents (Elt Ideal)) (x7 : (⟨S4x256x4x128, .f32⟩ : BufTy).Contents (Elt Ideal))
  (x8 x9 : (⟨S4x256x2x64, .f32⟩ : BufTy).Contents (Elt Ideal)) (x10 : (⟨S4x64, .f32⟩ : BufTy).Contents (Elt Ideal))
  (x11 : (⟨S128, .f32⟩ : BufTy).Contents (Elt Ideal))

/-- The reference's λ. -/
theorem ref_lam : val_main_v15 (F := Ideal) x10 ix0 = lamOf x10 := by
  pointwise [val_main_v15, val_main_v14, val_main_cst_1, val_main_v13, val_main_v12, val_main_cst_0, val_main_v11, val_main_v10, val_main_v9, val_main_v8, val_main_v7, val_main_v6, val_main_v5, val_main_cst, val_main_v4, val_main_v3, val_main_v2, val_main_v1, val_main_v0, lamOf]

/-- A differential head's score. -/
theorem ref_scoreD (b : Fin 4) (h : Fin 4) (i : Fin 2) (l : Fin 4096) (x : Fin 4352) :
    val_main_v22 (F := Ideal) x0 x2 x6 (ix5 b h i l x) = scoreR (fun d => x0 (ix5 b l h i d)) (keyD x2 x6 b h i) x := by
  pointwise [val_main_v22, val_main_v20, val_main_v21, val_main_cst_2, val_main_v16]
  rw [bits_eighth]
  rfl

/-- The largest of a query's scores, the row's. -/
theorem ref_maxD (b : Fin 4) (h : Fin 4) (i : Fin 2) (l : Fin 4096) :
    val_main_v23 (F := Ideal) x0 x2 x6 (ix4 b h i l) = Finset.univ.fold max ⊥ (scoreR (fun d => x0 (ix5 b l h i d)) (keyD x2 x6 b h i)) := by
  have e : (fun x => val_main_v22 (F := Ideal) x0 x2 x6 (ix5 b h i l x)) = scoreR (fun d => x0 (ix5 b l h i d)) (keyD x2 x6 b h i) :=
    funext fun x => ref_scoreD x0 x2 x6 b h i l x
  rw [← e]
  unfold val_main_v23
  generalize val_main_v22 (F := Ideal) x0 x2 x6 = y
  pointwise [val_main_cst_3]
  rw [bits_bot]

/-- The exponential of a score less the row's largest. -/
theorem ref_expD (b : Fin 4) (h : Fin 4) (i : Fin 2) (l : Fin 4096) (x : Fin 4352) :
    val_main_v29 (F := Ideal) x0 x2 x6 (ix5 b h i l x) = expR (scoreR (fun d => x0 (ix5 b l h i d)) (keyD x2 x6 b h i)) x := by
  have e : idx_main_v26 (idx_main_v27 (ix5 b h i l x)) = ix4 b h i l := by
    funext a
    fin_cases a <;> rfl
  rw [val_main_v29_apply, val_main_v28_apply, val_main_v27_apply, val_main_v26_apply, val_main_v25_apply, val_main_v24_apply, e, val_main_cst_4_apply, ref_scoreD x0 x2 x6 b h i l x, ref_maxD x0 x2 x6 b h i l]
  unfold expR
  rw [← bits_bot]
  rfl

/-- The reference's softmax of a differential head. -/
theorem ref_weightD (b : Fin 4) (h : Fin 4) (i : Fin 2) (l : Fin 4096) (x : Fin 4352) :
    val_main_v33 (F := Ideal) x0 x2 x6 (ix5 b h i l x) = weightR (fun d => x0 (ix5 b l h i d)) (keyD x2 x6 b h i) x := by
  unfold weightR
  rw [← ref_expD x0 x2 x6 b h i l x]
  simp only [← ref_expD x0 x2 x6 b h i l]
  unfold val_main_v33 val_main_v32 val_main_v31 val_main_v30
  generalize val_main_v29 (F := Ideal) x0 x2 x6 = y
  pointwise [val_main_cst_5]

/-- The differences of the two softmaxes' weights. -/
theorem ref_less (b : Fin 4) (l : Fin 4096) (h : Fin 4) (x : Fin 4352) :
    val_main_v40 (F := Ideal) x0 x2 x6 x10 (ix4 b h l x)
      = weightR (fun d => x0 (ix5 b l h 0 d)) (keyD x2 x6 b h 0) x - lamOf x10 * weightR (fun d => x0 (ix5 b l h 1 d)) (keyD x2 x6 b h 1) x := by
  have e0 : idx_main_v34 (idx_main_v35 (ix4 b h l x)) = ix5 b h 0 l x := by
    funext a
    fin_cases a <;> apply Fin.ext <;> simp [idx_main_v34, idx_main_v35] <;> omega
  have e1 : idx_main_v36 (idx_main_v37 (ix4 b h l x)) = ix5 b h 1 l x := by
    funext a
    fin_cases a <;> apply Fin.ext <;> simp [idx_main_v36, idx_main_v37] <;> omega
  have e2 : idx_main_v38 (ix4 b h l x) = ix0 := by
    funext a
    exact a.elim0
  rw [val_main_v40_apply, val_main_v35_apply, val_main_v34_apply, val_main_v39_apply, val_main_v38_apply, val_main_v37_apply, val_main_v36_apply, e0, e1, e2,
    ref_weightD x0 x2 x6 b h 0 l x, ref_weightD x0 x2 x6 b h 1 l x, ref_lam x10]
  rfl

/-- The values' concatenation. -/
theorem ref_valD (b : Fin 4) (h : Fin 4) (n : Fin 128) (x : Fin 4352) :
    val_main_v17 (F := Ideal) x3 x7 (ix4 b x h n) = valD x3 x7 b h n x := by
  pointwise [val_main_v17]
  rfl

/-- A differential head's row. -/
theorem ref_diff (b : Fin 4) (l : Fin 4096) (h : Fin 4) (n : Fin 128) :
    val_main_v42 (F := Ideal) x0 x2 x3 x6 x7 x10 (ix4 b l h n)
      = ∑ x, valD x3 x7 b h n x * (weightR (fun d => x0 (ix5 b l h 0 d)) (keyD x2 x6 b h 0) x - lamOf x10 * weightR (fun d => x0 (ix5 b l h 1 d)) (keyD x2 x6 b h 1) x) := by
  simp only [← ref_less x0 x2 x6 x10 b l h, ← ref_valD x3 x7 b h n]
  unfold val_main_v42 val_main_v41
  generalize val_main_v40 (F := Ideal) x0 x2 x6 x10 = y
  generalize val_main_v17 (F := Ideal) x3 x7 = z
  pointwise []

/-- The normalised rows. -/
theorem ref_norm (b : Fin 4) (l : Fin 4096) (h : Fin 4) (n : Fin 128) :
    val_main_v74 (F := Ideal) x0 x2 x3 x6 x7 x10 x11 (ix4 b l h n)
      = normed (fun n => val_main_v42 (F := Ideal) x0 x2 x3 x6 x7 x10 (ix4 b l h n)) (fun n => x11 (ix1 n)) n := by
  pointwise [val_main_v74, val_main_v73, val_main_cst_13, val_main_v72, val_main_v71, val_main_v70, val_main_v69, val_main_v68, val_main_v67, val_main_v66, val_main_v65, val_main_cst_12, val_main_v64, val_main_v63, val_main_cst_11, val_main_v62, val_main_v61, val_main_cst_10, val_main_v60, normed]

/-- The first three heads' columns. -/
theorem ref_od (b : Fin 4) (l : Fin 4096) (n : Fin 384) :
    val_main_v78 (F := Ideal) x0 x2 x3 x6 x7 x10 x11 (ix3 b l n)
      = val_main_v74 (F := Ideal) x0 x2 x3 x6 x7 x10 x11 (ix4 b l ⟨n / 128, by omega⟩ ⟨n % 128, by omega⟩) := by
  pointwise [val_main_v78, val_main_v77, val_main_v75]

/-- The last head's columns. -/
theorem ref_odl (b : Fin 4) (l : Fin 4096) (n : Fin 128) :
    val_main_v80 (F := Ideal) x0 x2 x3 x6 x7 x10 x11 (ix3 b l n)
      = val_main_v74 (F := Ideal) x0 x2 x3 x6 x7 x10 x11 (ix4 b l 3 n) := by
  pointwise [val_main_v80, val_main_v79, val_main_v75]
  congr 2
  exact Fin.ext (by show (384 + (n : ℕ)) / 128 = 3; omega)

/-- The grouped heads' keys' concatenation. -/
theorem ref_keyG (b : Fin 4) (g : Fin 2) (x : Fin 4352) (d : Fin 64) :
    val_main_v18 (F := Ideal) x4 x8 (ix4 b x g d) = keyG x4 x8 b g x d := by
  pointwise [val_main_v18]
  rfl

/-- The grouped heads' values' concatenation. -/
theorem ref_valG (b : Fin 4) (g : Fin 2) (x : Fin 4352) (d : Fin 64) :
    val_main_v19 (F := Ideal) x5 x9 (ix4 b x g d) = valG x5 x9 b g d x := by
  pointwise [val_main_v19]
  rfl

/-- A grouped head's score. -/
theorem ref_scoreG (b : Fin 4) (g : Fin 2) (j : Fin 4) (l : Fin 4096) (x : Fin 4352) :
    val_main_v46 (F := Ideal) x1 x4 x8 (ix5 b g j l x) = scoreR (fun d => x1 (ix5 b l g j d)) (keyG x4 x8 b g) x := by
  unfold scoreR
  simp only [← ref_keyG x4 x8 b g x]
  unfold val_main_v46 val_main_v45 val_main_v44 val_main_v43
  generalize val_main_v18 (F := Ideal) x4 x8 = y
  pointwise [val_main_cst_6]
  rw [bits_eighth]
  exact congrArg (· * _) (Finset.sum_congr rfl fun d _ => mul_comm _ _)

/-- The largest of a grouped query's scores. -/
theorem ref_maxG (b : Fin 4) (g : Fin 2) (j : Fin 4) (l : Fin 4096) :
    val_main_v47 (F := Ideal) x1 x4 x8 (ix4 b g j l) = Finset.univ.fold max ⊥ (scoreR (fun d => x1 (ix5 b l g j d)) (keyG x4 x8 b g)) := by
  have e : (fun x => val_main_v46 (F := Ideal) x1 x4 x8 (ix5 b g j l x)) = scoreR (fun d => x1 (ix5 b l g j d)) (keyG x4 x8 b g) :=
    funext fun x => ref_scoreG x1 x4 x8 b g j l x
  rw [← e]
  unfold val_main_v47
  generalize val_main_v46 (F := Ideal) x1 x4 x8 = y
  pointwise [val_main_cst_7]
  rw [bits_bot]

/-- The exponential of a grouped score less the row's largest. -/
theorem ref_expG (b : Fin 4) (g : Fin 2) (j : Fin 4) (l : Fin 4096) (x : Fin 4352) :
    val_main_v53 (F := Ideal) x1 x4 x8 (ix5 b g j l x) = expR (scoreR (fun d => x1 (ix5 b l g j d)) (keyG x4 x8 b g)) x := by
  have e : idx_main_v50 (idx_main_v51 (ix5 b g j l x)) = ix4 b g j l := by
    funext a
    fin_cases a <;> rfl
  rw [val_main_v53_apply, val_main_v52_apply, val_main_v51_apply, val_main_v50_apply, val_main_v49_apply, val_main_v48_apply, e, val_main_cst_8_apply, ref_scoreG x1 x4 x8 b g j l x, ref_maxG x1 x4 x8 b g j l]
  unfold expR
  rw [← bits_bot]
  rfl

/-- The reference's softmax of a grouped head. -/
theorem ref_weightG (b : Fin 4) (g : Fin 2) (j : Fin 4) (l : Fin 4096) (x : Fin 4352) :
    val_main_v57 (F := Ideal) x1 x4 x8 (ix5 b g j l x) = weightR (fun d => x1 (ix5 b l g j d)) (keyG x4 x8 b g) x := by
  unfold weightR
  rw [← ref_expG x1 x4 x8 b g j l x]
  simp only [← ref_expG x1 x4 x8 b g j l]
  unfold val_main_v57 val_main_v56 val_main_v55 val_main_v54
  generalize val_main_v53 (F := Ideal) x1 x4 x8 = y
  pointwise [val_main_cst_9]

/-- A grouped head's row. -/
theorem ref_group (b : Fin 4) (l : Fin 4096) (g : Fin 2) (j : Fin 4) (d : Fin 64) :
    val_main_v59 (F := Ideal) x1 x4 x5 x8 x9 (ix5 b l g j d)
      = ∑ x, valG x5 x9 b g d x * weightR (fun d => x1 (ix5 b l g j d)) (keyG x4 x8 b g) x := by
  simp only [← ref_weightG x1 x4 x8 b g j l, ← ref_valG x5 x9 b g]
  unfold val_main_v59 val_main_v58
  generalize val_main_v57 (F := Ideal) x1 x4 x8 = y
  generalize val_main_v19 (F := Ideal) x5 x9 = z
  pointwise []

/-- The grouped heads' columns. -/
theorem ref_og (b : Fin 4) (l : Fin 4096) (n : Fin 512) :
    val_main_v81 (F := Ideal) x1 x4 x5 x8 x9 (ix3 b l n)
      = val_main_v59 (F := Ideal) x1 x4 x5 x8 x9 (ix5 b l ⟨n / 256, by omega⟩ ⟨n / 64 % 4, by omega⟩ ⟨n % 64, by omega⟩) := by
  unfold val_main_v81 val_main_v76
  generalize val_main_v59 (F := Ideal) x1 x4 x5 x8 x9 = y
  pointwise []

end

end Cert.Attn

end
-- ==== Proof.Heads.lean ====
/-
  What a point of the attention stores, read at an index: every stored entry as a formula over entries of the point's blocks.
-/
module

public import proofs.«01_k».proof.Proof.Spec
public import proofs.«01_k».proof.Proof.RefRead
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Cert.KernelIdeal.Gen
open Cert.Attn (kap scoreK powK headK lamOf normed)

section
variable (x0 x1 : Vec Ideal S1x256x512 .f32) (x2 : Vec Ideal S1x512x4352 .bf16) (x3 : Vec Ideal S1x4352x512 .bf16)
  (x4 : Vec Ideal S1x128x4352 .bf16) (x5 : Vec Ideal S1x4352x128 .bf16) (x6 : Vec Ideal S4x64 .f32) (x7 : Vec Ideal S1x128 .f32)

/-- A differential head before its normalisation, over a point's blocks: its first softmax less λ times its second. -/
def diffK (r : Fin 256) (h : Fin 4) (n : Fin 128) : EReal :=
  headK (fun d : Fin 64 => x0 (ix3 0 r ⟨128 * h + d, by omega⟩)) (fun (x : Fin 4352) d => x2 (ix3 0 ⟨128 * h + d, by omega⟩ x)) (fun x => x3 (ix3 0 x ⟨128 * h + n, by omega⟩))
    - lamOf x6 * headK (fun d : Fin 64 => x0 (ix3 0 r ⟨128 * h + 64 + d, by omega⟩)) (fun (x : Fin 4352) d => x2 (ix3 0 ⟨128 * h + 64 + d, by omega⟩ x)) (fun x => x3 (ix3 0 x ⟨128 * h + n, by omega⟩))

/-- A grouped head over a point's blocks. -/
def groupK (r : Fin 256) (h : Fin 8) (n : Fin 64) : EReal :=
  headK (fun d : Fin 64 => x1 (ix3 0 r ⟨64 * h + d, by omega⟩)) (fun (x : Fin 4352) d => x4 (ix3 0 ⟨64 * (h / 4) + d, by omega⟩ x)) (fun x => x5 (ix3 0 x ⟨64 * (h / 4) + n, by omega⟩))

/-- The named constant is the factor of the scores. -/
theorem named_kap : Named.named (F := Ideal) κ "q_prescale" (φ := .f32) 0x3E38AA3B#32 = kap := by
  rfl

/-- Scores at an index. -/
theorem scores_at (q : Vec Ideal S1x256x64 .f32) (k : Vec Ideal S1x64x4352 .bf16) (r : Fin 256) (x : Fin 4352) :
    scores q k (ix2 r x) = scoreK (fun d => q (ix3 0 r d)) (fun x d => k (ix3 0 d x)) x := by
  pointwise [scores]
  unfold scoreK
  rw [← named_kap]

/-- One softmax against values that have ones beside them, at an index. -/
theorem attend_at (q : Vec Ideal S1x256x64 .f32) (k : Vec Ideal S1x64x4352 .bf16) (v : FVec Ideal S4352x256 .bf16)
    (h1 : ∀ x (n : Fin 128), v (ix2 x ⟨128 + n, by omega⟩) = (1 : EReal)) (r : Fin 256) (n : Fin 128) :
    attend (scores q k) v (ix2 r n)
      = headK (fun d => q (ix3 0 r d)) (fun x d => k (ix3 0 d x)) (fun x => v (ix2 x ⟨n, by omega⟩)) := by
  have hs : (fun x => scores q k (ix2 r x)) = scoreK (fun d => q (ix3 0 r d)) (fun x d => k (ix3 0 d x)) := funext (scores_at q k r)
  have hx : ∀ x, scores q k (ix2 r x) = scoreK (fun d => q (ix3 0 r d)) (fun x d => k (ix3 0 d x)) x := scores_at q k r
  generalize scores q k = s at hs hx
  pointwise [attend, quot, against, powers]
  rw [hs]
  unfold headK powK
  simp only [hx, h1, mul_one]
  rw [Cert.Attn.bits_bot]
  rfl

/-- Second scores, as kept for the next point. -/
theorem k0_pay2_eq (q : Vec Ideal S1x256x64 .f32) (k : Vec Ideal S1x64x4352 .bf16) : k0_pay2 q k = scores q k := by
  funext y
  idx_vars y
  pointwise [k0_pay2, scores]

/-- λ at its one index. -/
theorem lam_at : lam x6 (ix2 0 0) = lamOf x6 := by
  pointwise [lam, k0_pay17, lamOf]

/-- The stored differential rows at an index. -/
theorem pay32_at (o : FVec Ideal S256x128 .f32) (g : Vec Ideal S1x128 .f32) (r : Fin 256) (n : Fin 128) :
    k0_pay32 o g (ix3 0 r n) = normed (fun n => o (ix2 r n)) (fun n => g (ix2 0 n)) n := by
  pointwise [k0_pay32, normed]

/-- The combination at an index. -/
theorem less_at (l : FVec Ideal S1x1 .f32) (m0 m1 : FVec Ideal S256x128 .f32) (r : Fin 256) (n : Fin 128) :
    lessLam l m0 m1 (ix2 r n) = (m0 (ix2 r n) - l (ix2 0 0) * m1 (ix2 r n) : EReal) := by
  pointwise [lessLam]

/-- A head's values as stored, -/
theorem pay4_at (w : Vec Ideal S1x4352x128 .bf16) (y : S1x4352x128.Idx) : k0_pay4 w y = w y := by
  idx_vars y
  pointwise [k0_pay4]

/-- and the ones beside them; -/
theorem pay5_at (y : S1x4352x128.Idx) : k0_pay5 (F := Ideal) y = (1 : EReal) := by
  idx_vars y
  pointwise [k0_pay5]

/-- the grouped heads' values as stored, -/
theorem pay13_at (w : Vec Ideal S1x4352x128 .bf16) (a : Fin 4352) (b : Fin 128) : k0_pay13 w (ix2 a b) = w (ix3 0 a b) := by
  pointwise [k0_pay13]

/-- and the ones beside them. -/
theorem pay14_at (y : S4352x128.Idx) : k0_pay14 (F := Ideal) y = (1 : EReal) := by
  idx_vars y
  pointwise [k0_pay14]

/-- The stacked values at an index: the values, -/
theorem vdx_val (h : Fin 4) (x : Fin 4352) (n : Fin 128) :
    vdxOf x3 (ix3 h x ⟨n, by omega⟩) = x3 (ix3 0 x ⟨128 * h + n, by omega⟩) := by
  have hn := n.isLt
  have hh := h.isLt
  unfold vdxOf vdxPieces
  canon_tiles y hy
  all_goals
    have e0 : (h : ℕ) = _ := hy0
    have e1 : (x : ℕ) = _ := hy1
    have e2 : (n : ℕ) = _ := hy2
  all_goals first
    | (exfalso; omega)
    | (rw [pay4_at]
       refine View.ld_unit_apply_of _ _ _ _ _ _ fun a => ?_
       fin_cases a <;> simp <;> omega)

/-- and the ones. -/
theorem vdx_one (h : Fin 4) (x : Fin 4352) (n : Fin 128) :
    vdxOf x3 (ix3 h x ⟨128 + n, by omega⟩) = (1 : EReal) := by
  have hn := n.isLt
  have hh := h.isLt
  unfold vdxOf vdxPieces
  canon_tiles y hy
  all_goals
    have e0 : (h : ℕ) = _ := hy0
    have e1 : (x : ℕ) = _ := hy1
    have e2 : (128 + n : ℕ) = _ := hy2
  all_goals first
    | exact pay5_at y
    | (exfalso; omega)

/-- The grouped heads' values at an index: the values, -/
theorem vgx_val (x : Fin 4352) (n : Fin 128) :
    vgxOf x5 (ix2 x ⟨n, by omega⟩) = x5 (ix3 0 x n) := by
  have hn := n.isLt
  unfold vgxOf vgxPieces
  canon_tiles y hy
  all_goals
    have e0 : (x : ℕ) = _ := hy0
    have e1 : (n : ℕ) = _ := hy1
  · exfalso; omega
  · have hy : y = ix2 x n := by
      funext a
      fin_cases a
      · exact Fin.ext e0.symm
      · exact Fin.ext e1.symm
    rw [hy, pay13_at]
    refine View.ld_unit_apply_of _ _ _ _ _ _ fun a => ?_
    fin_cases a <;> simp

/-- and the ones. -/
theorem vgx_one (x : Fin 4352) (n : Fin 128) :
    vgxOf x5 (ix2 x ⟨128 + n, by omega⟩) = (1 : EReal) := by
  have hn := n.isLt
  unfold vgxOf vgxPieces
  canon_tiles y hy
  all_goals
    have e0 : (x : ℕ) = _ := hy0
    have e1 : (128 + n : ℕ) = _ := hy1
  · exact pay14_at y
  · exfalso; omega

/-- A slab of the stacked values has ones beside the values. -/
theorem slab_one (h : Fin 4) (v : Vec Ideal S1x4352x256 .bf16) (hv : ∀ x n, v (ix3 0 x n) = vdxOf x3 (ix3 h x n)) (x : Fin 4352) (n : Fin 128) :
    slab v (ix2 x ⟨128 + n, by omega⟩) = (1 : EReal) := by
  have e : slab v (ix2 x ⟨128 + n, by omega⟩) = v (ix3 0 x ⟨128 + n, by omega⟩) := by pointwise [slab]
  rw [e, hv, vdx_one]

/-- A slab's values. -/
theorem slab_val (h : Fin 4) (v : Vec Ideal S1x4352x256 .bf16) (hv : ∀ x n, v (ix3 0 x n) = vdxOf x3 (ix3 h x n)) (x : Fin 4352) (n : Fin 128) :
    slab v (ix2 x ⟨n, by omega⟩) = x3 (ix3 0 x ⟨128 * h + n, by omega⟩) := by
  have e : slab v (ix2 x ⟨n, by omega⟩) = v (ix3 0 x ⟨n, by omega⟩) := by pointwise [slab]
  rw [e, hv, vdx_val]

/-- A differential head's stored rows, its loads given by where they read. -/
theorem diffHead_at (h : Fin 4) (qa qb : Vec Ideal S1x256x64 .f32) (ka kb : Vec Ideal S1x64x4352 .bf16) (v : Vec Ideal S1x4352x256 .bf16)
    (hqa : ∀ r d, qa (ix3 0 r d) = x0 (ix3 0 r ⟨128 * h + d, by omega⟩)) (hqb : ∀ r d, qb (ix3 0 r d) = x0 (ix3 0 r ⟨128 * h + 64 + d, by omega⟩))
    (hka : ∀ d x, ka (ix3 0 d x) = x2 (ix3 0 ⟨128 * h + d, by omega⟩ x)) (hkb : ∀ d x, kb (ix3 0 d x) = x2 (ix3 0 ⟨128 * h + 64 + d, by omega⟩ x))
    (hv : ∀ x n, v (ix3 0 x n) = vdxOf x3 (ix3 h x n)) (r : Fin 256) (n : Fin 128) :
    diffHead (lam x6) (attend (scores qa ka) (slab v)) (scores qb kb) v (gain x7) (ix3 0 r n)
      = normed (diffK x0 x2 x3 x6 r h) (fun n => x7 (ix2 0 n)) n := by
  have hg : ∀ n : Fin 128, gain x7 (ix2 0 n) = x7 (ix2 0 n) := fun n =>
    View.ld_unit_apply_of x7 _ _ _ _ (ix2 0 n) fun a => by fin_cases a <;> simp
  refine (pay32_at _ _ _ _).trans ?_
  simp only [hg]
  congr 1
  funext n
  rw [less_at, lam_at, attend_at _ _ _ (slab_one x3 h v hv), attend_at _ _ _ (slab_one x3 h v hv)]
  simp only [hqa, hqb, hka, hkb, slab_val x3 h v hv]
  rfl

/-- The block of the first three heads at an index. -/
theorem od_at (r : Fin 256) (n : Fin 384) :
    View.canon (odPieces x0 x2 x6 x7 (vdxOf x3)) (ix3 0 r n)
      = normed (diffK x0 x2 x3 x6 r ⟨n / 128, by omega⟩) (fun n => x7 (ix2 0 n)) ⟨n % 128, by omega⟩ := by
  have hn := n.isLt
  unfold odPieces
  canon_tiles y hy
  all_goals
    have e1 : (r : ℕ) = _ := hy1
    have e2 : (n : ℕ) = _ := hy2
  · have hy : y = ix3 0 r ⟨n % 128, by omega⟩ := by
      funext a
      fin_cases a
      · exact Fin.ext (by show (y 0).val = 0; omega)
      · exact Fin.ext e1.symm
      · exact Fin.ext (by show (y 2).val = n % 128; omega)
    have hh : (⟨n / 128, by omega⟩ : Fin 4) = 2 := Fin.ext (by show (n : ℕ) / 128 = 2; omega)
    rw [hy, hh]
    refine diffHead_at x0 x2 x3 x6 x7 2 _ _ _ _ _ ?_ ?_ ?_ ?_ ?_ r _
    all_goals
      intro a b
      refine View.ld_unit_apply_of _ _ _ _ _ _ fun c => ?_
      fin_cases c <;> simp
  · have hy : y = ix3 0 r ⟨n % 128, by omega⟩ := by
      funext a
      fin_cases a
      · exact Fin.ext (by show (y 0).val = 0; omega)
      · exact Fin.ext e1.symm
      · exact Fin.ext (by show (y 2).val = n % 128; omega)
    have hh : (⟨n / 128, by omega⟩ : Fin 4) = 1 := Fin.ext (by show (n : ℕ) / 128 = 1; omega)
    rw [hy, hh]
    refine diffHead_at x0 x2 x3 x6 x7 1 _ _ _ _ _ ?_ ?_ ?_ ?_ ?_ r _
    all_goals
      intro a b
      refine View.ld_unit_apply_of _ _ _ _ _ _ fun c => ?_
      fin_cases c <;> simp
  · have hy : y = ix3 0 r ⟨n % 128, by omega⟩ := by
      funext a
      fin_cases a
      · exact Fin.ext (by show (y 0).val = 0; omega)
      · exact Fin.ext e1.symm
      · exact Fin.ext (by show (y 2).val = n % 128; omega)
    have hh : (⟨n / 128, by omega⟩ : Fin 4) = 0 := Fin.ext (by show (n : ℕ) / 128 = 0; omega)
    rw [hy, hh]
    refine diffHead_at x0 x2 x3 x6 x7 0 _ _ _ _ _ ?_ ?_ ?_ ?_ ?_ r _
    all_goals
      intro a b
      refine View.ld_unit_apply_of _ _ _ _ _ _ fun c => ?_
      fin_cases c <;> simp

/-- Which column a half is in. -/
theorem left_half : ∀ c : Fin 128, IntOp.cmpi .slt (BitVec.ofNat 32 c.val) 64#32 = if c.val < 64 then 1#1 else 0#1 := by decide

/-- A pair at a column of its left half, -/
theorem halves_left (a b : FVec Ideal S256x128 .f32) (r : Fin 256) (c : Fin 128) (hc : c.val < 64) : halves a b (ix3 0 r c) = a (ix2 r c) := by
  pointwise [halves]
  rw [left_half, if_pos hc]
  rfl

/-- and at a column of its right half. -/
theorem halves_right (a b : FVec Ideal S256x128 .f32) (r : Fin 256) (c : Fin 128) (hc : ¬ c.val < 64) : halves a b (ix3 0 r c) = b (ix2 r c) := by
  pointwise [halves]
  rw [left_half, if_neg hc]
  rfl

/-- Columns turned by 64, at a column. -/
theorem turned_at (a : FVec Ideal S256x128 .f32) (r : Fin 256) (c d : Fin 128) (hd : d.val = (c.val + 64) % 128) : turned a (ix2 r c) = a (ix2 r d) := by
  pointwise [turned]
  congr 2
  exact Fin.ext (by show (c.val + 128 - 64) % 128 = d.val; omega)

/-- A grouped head's result, at the column that holds one of its dimensions; its loads given by where they read. -/
theorem groupHead_at (h : Fin 8) (q : Vec Ideal S1x256x64 .f32) (k : Vec Ideal S1x64x4352 .bf16)
    (hq : ∀ r d, q (ix3 0 r d) = x1 (ix3 0 r ⟨64 * h + d, by omega⟩)) (hk : ∀ d x, k (ix3 0 d x) = x4 (ix3 0 ⟨64 * (h / 4) + d, by omega⟩ x))
    (r : Fin 256) (n : Fin 64) (c : Fin 128) (hc : c.val = 64 * (h.val / 4) + n.val) :
    attend (scores q k) (vg (vgxOf x5)) (ix2 r c) = groupK x1 x4 x5 r h n := by
  have hv : vg (vgxOf x5) = vgxOf x5 := View.ld_unit_zero (by funext a; fin_cases a <;> rfl : (![0, 0] : Fin 2 → ℕ) = fun _ => 0) _ _
  have hc' : c = ⟨64 * (h / 4) + n, by omega⟩ := Fin.ext hc
  rw [hv, attend_at _ _ _ (vgx_one x5)]
  simp only [hq, hk, vgx_val]
  rw [hc']
  rfl

/-- A pair of the first group's heads: the second head's values turned into the right half. -/
theorem pair_low (hA hB : Fin 8) (h0 : hA.val < 4) (h1 : hB.val < 4) (qa qb : Vec Ideal S1x256x64 .f32) (k : Vec Ideal S1x64x4352 .bf16)
    (hqa : ∀ r d, qa (ix3 0 r d) = x1 (ix3 0 r ⟨64 * hA + d, by omega⟩)) (hqb : ∀ r d, qb (ix3 0 r d) = x1 (ix3 0 r ⟨64 * hB + d, by omega⟩))
    (hk : ∀ d x, k (ix3 0 d x) = x4 (ix3 0 ⟨d, by omega⟩ x)) (r : Fin 256) (c : Fin 128) (h : Fin 8)
    (hh : h = if c.val < 64 then hA else hB) :
    halves (attend (scores qa k) (vg (vgxOf x5))) (turned (attend (scores qb k) (vg (vgxOf x5)))) (ix3 0 r c)
      = groupK x1 x4 x5 r h ⟨c % 64, by omega⟩ := by
  have hc := c.isLt
  by_cases hl : c.val < 64
  · rw [halves_left _ _ _ _ hl, hh, if_pos hl]
    exact groupHead_at x1 x4 x5 hA qa k hqa (fun d x => (hk d x).trans (by congr 2; exact Fin.ext (by show d.val = 64 * (hA.val / 4) + d.val; omega))) r _ c
      (by show c.val = 64 * (hA.val / 4) + c.val % 64; omega)
  · rw [halves_right _ _ _ _ hl, hh, if_neg hl, turned_at _ r c ⟨(c.val + 64) % 128, by omega⟩ rfl]
    exact groupHead_at x1 x4 x5 hB qb k hqb (fun d x => (hk d x).trans (by congr 2; exact Fin.ext (by show d.val = 64 * (hB.val / 4) + d.val; omega))) r _ _
      (by show (c.val + 64) % 128 = 64 * (hB.val / 4) + c.val % 64; omega)

/-- A pair of the second group's heads: the first head's values turned into the left half. -/
theorem pair_high (hA hB : Fin 8) (h0 : 4 ≤ hA.val) (h1 : 4 ≤ hB.val) (qa qb : Vec Ideal S1x256x64 .f32) (k : Vec Ideal S1x64x4352 .bf16)
    (hqa : ∀ r d, qa (ix3 0 r d) = x1 (ix3 0 r ⟨64 * hA + d, by omega⟩)) (hqb : ∀ r d, qb (ix3 0 r d) = x1 (ix3 0 r ⟨64 * hB + d, by omega⟩))
    (hk : ∀ d x, k (ix3 0 d x) = x4 (ix3 0 ⟨64 + d, by omega⟩ x)) (r : Fin 256) (c : Fin 128) (h : Fin 8)
    (hh : h = if c.val < 64 then hA else hB) :
    halves (turned (attend (scores qa k) (vg (vgxOf x5)))) (attend (scores qb k) (vg (vgxOf x5))) (ix3 0 r c)
      = groupK x1 x4 x5 r h ⟨c % 64, by omega⟩ := by
  have hc := c.isLt
  have hA8 := hA.isLt
  have hB8 := hB.isLt
  by_cases hl : c.val < 64
  · rw [halves_left _ _ _ _ hl, hh, if_pos hl, turned_at _ r c ⟨(c.val + 64) % 128, by omega⟩ rfl]
    exact groupHead_at x1 x4 x5 hA qa k hqa (fun d x => (hk d x).trans (by congr 2; exact Fin.ext (by show 64 + d.val = 64 * (hA.val / 4) + d.val; omega))) r _ _
      (by show (c.val + 64) % 128 = 64 * (hA.val / 4) + c.val % 64; omega)
  · rw [halves_right _ _ _ _ hl, hh, if_neg hl]
    exact groupHead_at x1 x4 x5 hB qb k hqb (fun d x => (hk d x).trans (by congr 2; exact Fin.ext (by show 64 + d.val = 64 * (hB.val / 4) + d.val; omega))) r _ c
      (by show c.val = 64 * (hB.val / 4) + c.val % 64; omega)

/-- The block of the grouped heads at an index. -/
theorem og_at (r : Fin 256) (n : Fin 512) :
    View.canon (ogPieces x1 x4 (vgxOf x5)) (ix3 0 r n) = groupK x1 x4 x5 r ⟨n / 64, by omega⟩ ⟨n % 64, by omega⟩ := by
  have hn := n.isLt
  unfold ogPieces
  canon_tiles y hy
  all_goals
    have e1 : (r : ℕ) = _ := hy1
    have e2 : (n : ℕ) = _ := hy2
    have hy : y = ix3 0 r ⟨n % 128, by omega⟩ := by
      funext a
      fin_cases a
      · exact Fin.ext (by show (y 0).val = 0; omega)
      · exact Fin.ext e1.symm
      · exact Fin.ext (by show (y 2).val = n % 128; omega)
    have hd : (⟨n % 64, by omega⟩ : Fin 64) = ⟨(n % 128) % 64, by omega⟩ := Fin.ext (by show (n : ℕ) % 64 = n % 128 % 64; omega)
    rw [hy, hd]
  · refine pair_high x1 x4 x5 6 7 (by decide) (by decide) _ _ _ ?_ ?_ ?_ r ⟨n % 128, by omega⟩ _ ?_
    · intro a b
      refine View.ld_unit_apply_of _ _ _ _ _ _ fun c => ?_
      fin_cases c <;> simp
    · intro a b
      refine View.ld_unit_apply_of _ _ _ _ _ _ fun c => ?_
      fin_cases c <;> simp
    · intro a b
      refine View.ld_unit_apply_of _ _ _ _ _ _ fun c => ?_
      fin_cases c <;> simp
    · split_ifs with hl
      · exact Fin.ext (by show (n : ℕ) / 64 = 6; have hl' : (n : ℕ) % 128 < 64 := hl; omega)
      · exact Fin.ext (by show (n : ℕ) / 64 = 7; have hl' : ¬ (n : ℕ) % 128 < 64 := hl; omega)
  · refine pair_high x1 x4 x5 4 5 (by decide) (by decide) _ _ _ ?_ ?_ ?_ r ⟨n % 128, by omega⟩ _ ?_
    · intro a b
      refine View.ld_unit_apply_of _ _ _ _ _ _ fun c => ?_
      fin_cases c <;> simp
    · intro a b
      refine View.ld_unit_apply_of _ _ _ _ _ _ fun c => ?_
      fin_cases c <;> simp
    · intro a b
      refine View.ld_unit_apply_of _ _ _ _ _ _ fun c => ?_
      fin_cases c <;> simp
    · split_ifs with hl
      · exact Fin.ext (by show (n : ℕ) / 64 = 4; have hl' : (n : ℕ) % 128 < 64 := hl; omega)
      · exact Fin.ext (by show (n : ℕ) / 64 = 5; have hl' : ¬ (n : ℕ) % 128 < 64 := hl; omega)
  · refine pair_low x1 x4 x5 2 3 (by decide) (by decide) _ _ _ ?_ ?_ ?_ r ⟨n % 128, by omega⟩ _ ?_
    · intro a b
      refine View.ld_unit_apply_of _ _ _ _ _ _ fun c => ?_
      fin_cases c <;> simp
    · intro a b
      refine View.ld_unit_apply_of _ _ _ _ _ _ fun c => ?_
      fin_cases c <;> simp
    · intro a b
      refine View.ld_unit_apply_of _ _ _ _ _ _ fun c => ?_
      fin_cases c <;> simp
    · split_ifs with hl
      · exact Fin.ext (by show (n : ℕ) / 64 = 2; have hl' : (n : ℕ) % 128 < 64 := hl; omega)
      · exact Fin.ext (by show (n : ℕ) / 64 = 3; have hl' : ¬ (n : ℕ) % 128 < 64 := hl; omega)
  · refine pair_low x1 x4 x5 0 1 (by decide) (by decide) _ _ _ ?_ ?_ ?_ r ⟨n % 128, by omega⟩ _ ?_
    · intro a b
      refine View.ld_unit_apply_of _ _ _ _ _ _ fun c => ?_
      fin_cases c <;> simp
    · intro a b
      refine View.ld_unit_apply_of _ _ _ _ _ _ fun c => ?_
      fin_cases c <;> simp
    · intro a b
      refine View.ld_unit_apply_of _ _ _ _ _ _ fun c => ?_
      fin_cases c <;> simp
    · split_ifs with hl
      · exact Fin.ext (by show (n : ℕ) / 64 = 0; have hl' : (n : ℕ) % 128 < 64 := hl; omega)
      · exact Fin.ext (by show (n : ℕ) / 64 = 1; have hl' : ¬ (n : ℕ) % 128 < 64 := hl; omega)

/-- The last head's rows at an index. -/
theorem last_at (r : Fin 256) (n : Fin 128) :
    lastHead x6 x7 (vdxOf x3) (sOf x0 x2) (mOf x0 x2 (vdxOf x3)) (ix3 0 r n) = normed (diffK x0 x2 x3 x6 r 3) (fun n => x7 (ix2 0 n)) n := by
  have hs : View.ld (sOf x0 x2) (Rect.unit (s := S256x4352) ![0, 0] S256x4352.size inb_S256x4352_S256x4352_0_0) = scores (q448 x0) (k448 x2) :=
    (View.ld_unit_zero (by funext a; fin_cases a <;> rfl : (![0, 0] : Fin 2 → ℕ) = fun _ => 0) _ _).trans (k0_pay2_eq _ _)
  have hm : View.ld (mOf x0 x2 (vdxOf x3)) (Rect.unit (s := S256x128) ![0, 0] S256x128.size inb_S256x128_S256x128_0_0)
      = attend (scores (q384 x0) (k384 x2)) (slab (v3 (vdxOf x3))) := by
    refine (View.ld_unit_zero (by funext a; fin_cases a <;> rfl : (![0, 0] : Fin 2 → ℕ) = fun _ => 0) _ _).trans ?_
    unfold mOf
    generalize attend (scores (q384 x0) (k384 x2)) (slab (v3 (vdxOf x3))) = y
    funext j
    idx_vars j
    pointwise []
  unfold lastHead
  rw [hs, hm]
  refine diffHead_at x0 x2 x3 x6 x7 3 _ _ _ _ _ ?_ ?_ ?_ ?_ ?_ r _
  all_goals
    intro a b
    refine View.ld_unit_apply_of _ _ _ _ _ _ fun c => ?_
    fin_cases c <;> simp

end

end Cert.KernelIdeal.Attn

end
-- ==== Proof.Blocks.lean ====
/-
  The blocks of the attention's inputs read at an index, through the arrays' preparation: entries of the arguments.
-/
module

public import proofs.«01_k».proof.Proof.Data
public import proofs.«01_k».proof.Proof.RefRead
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Attn

open Idealize.ShloMosaic Idealize.ShloMosaic.TcCoe Idealize.ShloMosaic.Tactic
open Cert.KernelIdeal.Gen
open Cert.Attn (keyD valD keyG valG)

section
variable (m : (ℓ : Loc nD τ sig) → Buf (Elt Ideal) ℓ) (c : Dev nD)

/-- A point's batch. -/
def batch (t : Fin cfg0.N) : Fin 4 := ⟨t.val / 16, by have ht : t.val < 64 := Nat.lt_of_lt_of_eq t.isLt N_0; omega⟩

/-- A tile's row in its array. -/
def rowOf (t : Fin cfg0.N) (r : Fin 256) : Fin 4096 := ⟨256 * (t.val % 16) + r.val, by have hr := r.isLt; omega⟩

/-- The differential queries. -/
theorem b0_at (t : Fin cfg0.N) (r : Fin 256) (n : Fin 512) :
    b0 m c t (ix3 0 r n) = m (c.tc.loc main_arg0) (ix5 (batch t) (rowOf t r) ⟨n / 128, by omega⟩ ⟨n / 64 % 2, by omega⟩ ⟨n % 64, by omega⟩) := by
  blk_simp [b0, iblk, V, index0 t]
  entry_read
  have e : ((View.whole main_v18).slice (win0_0.rect t)).emb (ix3 0 r n) = ix3 (batch t) (rowOf t r) n := by
    blk_ext [index0 t, batch, rowOf]
  refine (congrArg _ e).trans ?_
  show shapeCast S4x4096x512 _ _ (ix3 (batch t) (rowOf t r) n) = _
  generalize m (c.tc.loc main_arg0) = y
  generalize batch t = b
  generalize rowOf t r = l
  pointwise []

/-- The grouped queries. -/
theorem b1_at (t : Fin cfg0.N) (r : Fin 256) (n : Fin 512) :
    b1 m c t (ix3 0 r n) = m (c.tc.loc main_arg1) (ix5 (batch t) (rowOf t r) ⟨n / 256, by omega⟩ ⟨n / 64 % 4, by omega⟩ ⟨n % 64, by omega⟩) := by
  blk_simp [b1, iblk, V, index1 t]
  entry_read
  have e : ((View.whole main_v19).slice (win0_1.rect t)).emb (ix3 0 r n) = ix3 (batch t) (rowOf t r) n := by
    blk_ext [index1 t, batch, rowOf]
  refine (congrArg _ e).trans ?_
  show shapeCast S4x4096x512 _ _ (ix3 (batch t) (rowOf t r) n) = _
  generalize m (c.tc.loc main_arg1) = y
  generalize batch t = b
  generalize rowOf t r = l
  pointwise []

/-- The differential heads' keys as prepared: latents and context one after the other, transposed. -/
theorem keysD_at (y : FVec Ideal S4x4096x4x2x64 .f32) (z : FVec Ideal S4x256x4x2x64 .f32) (b : Fin 4) (n : Fin 512) (x : Fin 4352) :
    transpose S4x512x4352 [0, 2, 1]
      (truncf FTy.bf16
        (concatenate S4x4352x512 1
          [⟨S4x4096x512, shapeCast S4x4096x512 y shapeCasts_S4x4096x4x2x64_S4x4096x512⟩,
            ⟨S4x256x512, shapeCast S4x256x512 z shapeCasts_S4x256x4x2x64_S4x256x512⟩]
          concatenates_S4x4096x512_S4x256x512_S4x4352x512_d1)
        bitsLt_bf16_f32) transposes_S4x4352x512_S4x512x4352_0_2_1 (ix3 b n x) = keyD y z b ⟨n / 128, by omega⟩ ⟨n / 64 % 2, by omega⟩ x ⟨n % 64, by omega⟩ := by
  unfold keyD
  pointwise []

/-- The grouped heads' keys as prepared. -/
theorem keysG_at (y : FVec Ideal S4x4096x2x64 .f32) (z : FVec Ideal S4x256x2x64 .f32) (b : Fin 4) (n : Fin 128) (x : Fin 4352) :
    transpose S4x128x4352 [0, 2, 1]
      (truncf FTy.bf16
        (concatenate S4x4352x128 1
          [⟨S4x4096x128, shapeCast S4x4096x128 y shapeCasts_S4x4096x2x64_S4x4096x128⟩,
            ⟨S4x256x128, shapeCast S4x256x128 z shapeCasts_S4x256x2x64_S4x256x128⟩]
          concatenates_S4x4096x128_S4x256x128_S4x4352x128_d1)
        bitsLt_bf16_f32) transposes_S4x4352x128_S4x128x4352_0_2_1 (ix3 b n x) = keyG y z b ⟨n / 64, by omega⟩ x ⟨n % 64, by omega⟩ := by
  unfold keyG
  pointwise []

/-- The differential heads' values as prepared. -/
theorem valsD_at (y : FVec Ideal S4x4096x4x128 .f32) (z : FVec Ideal S4x256x4x128 .f32) (b : Fin 4) (x : Fin 4352) (n : Fin 512) :
    (truncf FTy.bf16
        (concatenate S4x4352x512 1
          [⟨S4x4096x512, shapeCast S4x4096x512 y shapeCasts_S4x4096x4x128_S4x4096x512⟩,
            ⟨S4x256x512, shapeCast S4x256x512 z shapeCasts_S4x256x4x128_S4x256x512⟩]
          concatenates_S4x4096x512_S4x256x512_S4x4352x512_d1)
        bitsLt_bf16_f32) (ix3 b x n) = valD y z b ⟨n / 128, by omega⟩ ⟨n % 128, by omega⟩ x := by
  unfold valD
  pointwise []

/-- The grouped heads' values as prepared. -/
theorem valsG_at (y : FVec Ideal S4x4096x2x64 .f32) (z : FVec Ideal S4x256x2x64 .f32) (b : Fin 4) (x : Fin 4352) (n : Fin 128) :
    (truncf FTy.bf16
        (concatenate S4x4352x128 1
          [⟨S4x4096x128, shapeCast S4x4096x128 y shapeCasts_S4x4096x2x64_S4x4096x128⟩,
            ⟨S4x256x128, shapeCast S4x256x128 z shapeCasts_S4x256x2x64_S4x256x128⟩]
          concatenates_S4x4096x128_S4x256x128_S4x4352x128_d1)
        bitsLt_bf16_f32) (ix3 b x n) = valG y z b ⟨n / 64, by omega⟩ ⟨n % 64, by omega⟩ x := by
  unfold valG
  pointwise []

/-- The block of the differential heads' transposed keys. -/
theorem b2_at (t : Fin cfg0.N) (n : Fin 512) (x : Fin 4352) :
    b2 m c t (ix3 0 n x) = keyD (m (c.tc.loc main_arg2)) (m (c.tc.loc main_arg6)) (batch t) ⟨n / 128, by omega⟩ ⟨n / 64 % 2, by omega⟩ x ⟨n % 64, by omega⟩ := by
  blk_simp [b2, iblk, V, index2 t]
  entry_read
  have e : ((View.whole main_v4).slice (win0_2.rect t)).emb (ix3 0 n x) = ix3 (batch t) n x := by
    blk_ext [index2 t, batch]
  exact (congrArg _ e).trans (keysD_at _ _ (batch t) _ _)

/-- The block of the grouped heads' transposed keys. -/
theorem b4_at (t : Fin cfg0.N) (n : Fin 128) (x : Fin 4352) :
    b4 m c t (ix3 0 n x) = keyG (m (c.tc.loc main_arg4)) (m (c.tc.loc main_arg8)) (batch t) ⟨n / 64, by omega⟩ x ⟨n % 64, by omega⟩ := by
  blk_simp [b4, iblk, V, index4 t]
  entry_read
  have e : ((View.whole main_v9).slice (win0_4.rect t)).emb (ix3 0 n x) = ix3 (batch t) n x := by
    blk_ext [index4 t, batch]
  exact (congrArg _ e).trans (keysG_at _ _ (batch t) _ _)

/-- The block of the differential heads' values. -/
theorem b3_at (t : Fin cfg0.N) (x : Fin 4352) (n : Fin 512) :
    b3 m c t (ix3 0 x n) = valD (m (c.tc.loc main_arg3)) (m (c.tc.loc main_arg7)) (batch t) ⟨n / 128, by omega⟩ ⟨n % 128, by omega⟩ x := by
  blk_simp [b3, iblk, V, index3 t]
  entry_read
  have e : ((View.whole main_v13).slice (win0_3.rect t)).emb (ix3 0 x n) = ix3 (batch t) x n := by
    blk_ext [index3 t, batch]
  exact (congrArg _ e).trans (valsD_at _ _ (batch t) _ _)

/-- The block of the grouped heads' values. -/
theorem b5_at (t : Fin cfg0.N) (x : Fin 4352) (n : Fin 128) :
    b5 m c t (ix3 0 x n) = valG (m (c.tc.loc main_arg5)) (m (c.tc.loc main_arg9)) (batch t) ⟨n / 64, by omega⟩ ⟨n % 64, by omega⟩ x := by
  blk_simp [b5, iblk, V, index5 t]
  entry_read
  have e : ((View.whole main_v17).slice (win0_5.rect t)).emb (ix3 0 x n) = ix3 (batch t) x n := by
    blk_ext [index5 t, batch]
  exact (congrArg _ e).trans (valsG_at _ _ (batch t) _ _)

/-- λ's vectors. -/
theorem b6_at (t : Fin cfg0.N) (i : Fin 4) (d : Fin 64) :
    b6 m c t (ix2 i d) = m (c.tc.loc main_arg10) (ix2 i d) := by
  blk_ext [b6, iblk, V, index6 t]

/-- The gains. -/
theorem b7_at (t : Fin cfg0.N) (d : Fin 128) :
    b7 m c t (ix2 0 d) = m (c.tc.loc main_arg11) (ix1 d) := by
  blk_simp [b7, iblk, V, index7 t]
  entry_read
  have e : ((View.whole main_v20).slice (win0_7.rect t)).emb (ix2 0 d) = ix2 0 d := by
    blk_ext [index7 t]
  refine (congrArg _ e).trans ?_
  show shapeCast S1x128 _ _ (ix2 0 d) = _
  generalize m (c.tc.loc main_arg11) = y
  pointwise []

end

end Cert.KernelIdeal.Attn

end
-- ==== Proof.Tie.lean ====
/-
  Over real entries, what a point of the attention stores is what the reference has there.
-/
module

public import proofs.«01_k».proof.Proof.Heads
public import proofs.«01_k».proof.Proof.Blocks

@[expose] public section

set_option maxRecDepth 16384

noncomputable section

namespace Cert.Attn

open Idealize.ShloMosaic Cert.ReferenceIdeal Cert.ReferenceIdeal.Read

/-- Every entry is a real. -/
def AllReal {ι : Type*} (x : ι → EReal) : Prop := ∃ f : ι → ℝ, ∀ i, x i = (f i : EReal)

section
variable {x0 x2 : (⟨S4x4096x4x2x64, .f32⟩ : BufTy).Contents (Elt Ideal)} {x1 : (⟨S4x4096x2x4x64, .f32⟩ : BufTy).Contents (Elt Ideal)}
  {x3 : (⟨S4x4096x4x128, .f32⟩ : BufTy).Contents (Elt Ideal)} {x4 x5 : (⟨S4x4096x2x64, .f32⟩ : BufTy).Contents (Elt Ideal)}
  {x6 : (⟨S4x256x4x2x64, .f32⟩ : BufTy).Contents (Elt Ideal)} {x7 : (⟨S4x256x4x128, .f32⟩ : BufTy).Contents (Elt Ideal)}
  {x8 x9 : (⟨S4x256x2x64, .f32⟩ : BufTy).Contents (Elt Ideal)} {x10 : (⟨S4x64, .f32⟩ : BufTy).Contents (Elt Ideal)}

/-- λ is a real. -/
theorem lamOf_real (h : AllReal x10) : ∃ l : ℝ, lamOf x10 = (l : EReal) := by
  obtain ⟨f, hf⟩ := h
  obtain ⟨e, he⟩ := bits_fifth
  unfold lamOf
  simp only [hf, he]
  exact lam_real _ _ _ _ e

/-- The differential heads' keys are reals, -/
theorem keyD_real (h : AllReal x2) (h' : AllReal x6) (b : Fin 4) (e : Fin 4) (i : Fin 2) :
    ∃ k : Fin 4352 → Fin 64 → ℝ, keyD x2 x6 b e i = fun x d => ((k x d : ℝ) : EReal) := by
  obtain ⟨f, hf⟩ := h
  obtain ⟨g, hg⟩ := h'
  refine ⟨fun x d => if hx : (x : ℕ) < 4096 then f (ix5 b ⟨x, hx⟩ e i d) else g (ix5 b ⟨x - 4096, by omega⟩ e i d), ?_⟩
  funext x d
  unfold keyD
  split_ifs with hx
  · simp only [dif_pos hx, hf]
  · simp only [dif_neg hx, hg]

/-- their values, -/
theorem valD_real (h : AllReal x3) (h' : AllReal x7) (b : Fin 4) (e : Fin 4) (n : Fin 128) :
    ∃ v : Fin 4352 → ℝ, valD x3 x7 b e n = fun x => ((v x : ℝ) : EReal) := by
  obtain ⟨f, hf⟩ := h
  obtain ⟨g, hg⟩ := h'
  refine ⟨fun x => if hx : (x : ℕ) < 4096 then f (ix4 b ⟨x, hx⟩ e n) else g (ix4 b ⟨x - 4096, by omega⟩ e n), ?_⟩
  funext x
  unfold valD
  split_ifs with hx
  · simp only [dif_pos hx, hf]
  · simp only [dif_neg hx, hg]

/-- the grouped heads' keys -/
theorem keyG_real (h : AllReal x4) (h' : AllReal x8) (b : Fin 4) (e : Fin 2) :
    ∃ k : Fin 4352 → Fin 64 → ℝ, keyG x4 x8 b e = fun x d => ((k x d : ℝ) : EReal) := by
  obtain ⟨f, hf⟩ := h
  obtain ⟨g, hg⟩ := h'
  refine ⟨fun x d => if hx : (x : ℕ) < 4096 then f (ix4 b ⟨x, hx⟩ e d) else g (ix4 b ⟨x - 4096, by omega⟩ e d), ?_⟩
  funext x d
  unfold keyG
  split_ifs with hx
  · simp only [dif_pos hx, hf]
  · simp only [dif_neg hx, hg]

/-- and their values. -/
theorem valG_real (h : AllReal x5) (h' : AllReal x9) (b : Fin 4) (e : Fin 2) (n : Fin 64) :
    ∃ v : Fin 4352 → ℝ, valG x5 x9 b e n = fun x => ((v x : ℝ) : EReal) := by
  obtain ⟨f, hf⟩ := h
  obtain ⟨g, hg⟩ := h'
  refine ⟨fun x => if hx : (x : ℕ) < 4096 then f (ix4 b ⟨x, hx⟩ e n) else g (ix4 b ⟨x - 4096, by omega⟩ e n), ?_⟩
  funext x
  unfold valG
  split_ifs with hx
  · simp only [dif_pos hx, hf]
  · simp only [dif_neg hx, hg]

/-- A differential head, its quotients after the sums, is the reference's. -/
theorem diff_tie (h0 : AllReal x0) (h2 : AllReal x2) (h3 : AllReal x3) (h6 : AllReal x6) (h7 : AllReal x7) (h10 : AllReal x10)
    (b : Fin 4) (l : Fin 4096) (h : Fin 4) (n : Fin 128) :
    headK (fun d => x0 (ix5 b l h 0 d)) (keyD x2 x6 b h 0) (valD x3 x7 b h n)
        - lamOf x10 * headK (fun d => x0 (ix5 b l h 1 d)) (keyD x2 x6 b h 1) (valD x3 x7 b h n)
      = val_main_v42 (F := Ideal) x0 x2 x3 x6 x7 x10 (ix4 b l h n) := by
  rw [ref_diff]
  obtain ⟨f, hf⟩ := h0
  obtain ⟨k0, hk0⟩ := keyD_real h2 h6 b h 0
  obtain ⟨k1, hk1⟩ := keyD_real h2 h6 b h 1
  obtain ⟨v, hv⟩ := valD_real h3 h7 b h n
  obtain ⟨e, he⟩ := lamOf_real h10
  rw [hk0, hk1, hv, he]
  simp only [hf]
  exact diff_eq (by norm_num) _ _ k0 k1 v e

/-- A grouped head, its quotient after the sum, is the reference's. -/
theorem group_tie (h1 : AllReal x1) (h4 : AllReal x4) (h5 : AllReal x5) (h8 : AllReal x8) (h9 : AllReal x9)
    (b : Fin 4) (l : Fin 4096) (g : Fin 2) (j : Fin 4) (d : Fin 64) :
    headK (fun d => x1 (ix5 b l g j d)) (keyG x4 x8 b g) (valG x5 x9 b g d)
      = val_main_v59 (F := Ideal) x1 x4 x5 x8 x9 (ix5 b l g j d) := by
  rw [ref_group]
  obtain ⟨f, hf⟩ := h1
  obtain ⟨k, hk⟩ := keyG_real h4 h8 b g
  obtain ⟨v, hv⟩ := valG_real h5 h9 b g d
  rw [hk, hv]
  simp only [hf]
  exact head_eq (by norm_num) _ k v

end

end Cert.Attn

namespace Cert.KernelIdeal.Attn

open Idealize.ShloMosaic Idealize.ShloMosaic.TcCoe Idealize.ShloMosaic.Tactic
open Cert.KernelIdeal.Gen
open Cert.Attn (headK lamOf normed keyD valD keyG valG AllReal diff_tie group_tie ref_od ref_odl ref_og ref_norm)
open Cert.ReferenceIdeal.Read (val_main_v42 val_main_v59 val_main_v74 val_main_v78 val_main_v80 val_main_v81)

section
variable (m : (ℓ : Loc nD τ sig) → Buf (Elt Ideal) ℓ) (c : Dev nD)

/-- An argument's contents. -/
abbrev a0 : S4x4096x4x2x64.Idx → EReal := m (c.tc.loc main_arg0)
/-- An argument's contents. -/
abbrev a1 : S4x4096x2x4x64.Idx → EReal := m (c.tc.loc main_arg1)
/-- An argument's contents. -/
abbrev a2 : S4x4096x4x2x64.Idx → EReal := m (c.tc.loc main_arg2)
/-- An argument's contents. -/
abbrev a3 : S4x4096x4x128.Idx → EReal := m (c.tc.loc main_arg3)
/-- An argument's contents. -/
abbrev a4 : S4x4096x2x64.Idx → EReal := m (c.tc.loc main_arg4)
/-- An argument's contents. -/
abbrev a5 : S4x4096x2x64.Idx → EReal := m (c.tc.loc main_arg5)
/-- An argument's contents. -/
abbrev a6 : S4x256x4x2x64.Idx → EReal := m (c.tc.loc main_arg6)
/-- An argument's contents. -/
abbrev a7 : S4x256x4x128.Idx → EReal := m (c.tc.loc main_arg7)
/-- An argument's contents. -/
abbrev a8 : S4x256x2x64.Idx → EReal := m (c.tc.loc main_arg8)
/-- An argument's contents. -/
abbrev a9 : S4x256x2x64.Idx → EReal := m (c.tc.loc main_arg9)
/-- An argument's contents. -/
abbrev a10 : S4x64.Idx → EReal := m (c.tc.loc main_arg10)
/-- An argument's contents. -/
abbrev a11 : S128.Idx → EReal := m (c.tc.loc main_arg11)

/-- All arguments but the gains have real entries. -/
structure Finite : Prop where
  h0 : AllReal (a0 m c)
  h1 : AllReal (a1 m c)
  h2 : AllReal (a2 m c)
  h3 : AllReal (a3 m c)
  h4 : AllReal (a4 m c)
  h5 : AllReal (a5 m c)
  h6 : AllReal (a6 m c)
  h7 : AllReal (a7 m c)
  h8 : AllReal (a8 m c)
  h9 : AllReal (a9 m c)
  h10 : AllReal (a10 m c)

variable (hf : Finite m c)
include hf

/-- A point's differential head before its normalisation is the reference's. -/
theorem diffK_tie (t : Fin cfg0.N) (r : Fin 256) (h : Fin 4) (n : Fin 128) :
    diffK (b0 m c t) (b2 m c t) (b3 m c t) (b6 m c t) r h n
      = val_main_v42 (F := Ideal) (a0 m c) (a2 m c) (a3 m c) (a6 m c) (a7 m c) (a10 m c) (ix4 (batch t) (rowOf t r) h n) := by
  rw [← diff_tie hf.h0 hf.h2 hf.h3 hf.h6 hf.h7 hf.h10]
  have hl : b6 m c t = a10 m c := by
    funext j
    obtain ⟨i, d, rfl⟩ : ∃ i d, j = ix2 i d := ⟨j 0, j 1, eq_ix2 j⟩
    exact b6_at m c t i d
  have hq0 : (fun d : Fin 64 => b0 m c t (ix3 0 r ⟨128 * h + d, by omega⟩)) = fun d => a0 m c (ix5 (batch t) (rowOf t r) h 0 d) := by
    funext d
    rw [b0_at]
    blk_ext []
  have hq1 : (fun d : Fin 64 => b0 m c t (ix3 0 r ⟨128 * h + 64 + d, by omega⟩)) = fun d => a0 m c (ix5 (batch t) (rowOf t r) h 1 d) := by
    funext d
    rw [b0_at]
    blk_ext []
  have hk0 : (fun (x : Fin 4352) (d : Fin 64) => b2 m c t (ix3 0 ⟨128 * h + d, by omega⟩ x)) = keyD (a2 m c) (a6 m c) (batch t) h 0 := by
    funext x d
    rw [b2_at]
    congr 1 <;> exact Fin.ext (by simp <;> omega)
  have hk1 : (fun (x : Fin 4352) (d : Fin 64) => b2 m c t (ix3 0 ⟨128 * h + 64 + d, by omega⟩ x)) = keyD (a2 m c) (a6 m c) (batch t) h 1 := by
    funext x d
    rw [b2_at]
    congr 1 <;> exact Fin.ext (by simp <;> omega)
  have hv : (fun x : Fin 4352 => b3 m c t (ix3 0 x ⟨128 * h + n, by omega⟩)) = valD (a3 m c) (a7 m c) (batch t) h n := by
    funext x
    rw [b3_at]
    congr 1 <;> exact Fin.ext (by simp <;> omega)
  unfold diffK
  rw [hl, hq0, hq1, hk0, hk1, hv]

/-- A point's grouped head is the reference's. -/
theorem groupK_tie (t : Fin cfg0.N) (r : Fin 256) (n : Fin 512) :
    groupK (b1 m c t) (b4 m c t) (b5 m c t) r ⟨n / 64, by omega⟩ ⟨n % 64, by omega⟩
      = val_main_v81 (F := Ideal) (a1 m c) (a4 m c) (a5 m c) (a8 m c) (a9 m c) (ix3 (batch t) (rowOf t r) n) := by
  have hn := n.isLt
  rw [ref_og, ← group_tie hf.h1 hf.h4 hf.h5 hf.h8 hf.h9]
  have hq : (fun d : Fin 64 => b1 m c t (ix3 0 r ⟨64 * (n / 64) + d, by omega⟩)) = fun d => a1 m c (ix5 (batch t) (rowOf t r) ⟨n / 256, by omega⟩ ⟨n / 64 % 4, by omega⟩ d) := by
    funext d
    rw [b1_at]
    blk_ext []
  have hk : (fun (x : Fin 4352) (d : Fin 64) => b4 m c t (ix3 0 ⟨64 * (n / 64 / 4) + d, by omega⟩ x)) = keyG (a4 m c) (a8 m c) (batch t) ⟨n / 256, by omega⟩ := by
    funext x d
    rw [b4_at]
    congr 1 <;> exact Fin.ext (by simp <;> omega)
  have hv : (fun x : Fin 4352 => b5 m c t (ix3 0 x ⟨64 * (n / 64 / 4) + n % 64, by omega⟩)) = valG (a5 m c) (a9 m c) (batch t) ⟨n / 256, by omega⟩ ⟨n % 64, by omega⟩ := by
    funext x
    rw [b5_at]
    congr 1 <;> exact Fin.ext (by simp <;> omega)
  unfold groupK
  rw [← hq, ← hk, ← hv]

/-- What a point stores of the first three heads. -/
theorem od_tie (t : Fin cfg0.N) (r : Fin 256) (n : Fin 384) :
    odAt m c t (ix3 0 r n) = val_main_v78 (F := Ideal) (a0 m c) (a2 m c) (a3 m c) (a6 m c) (a7 m c) (a10 m c) (a11 m c) (ix3 (batch t) (rowOf t r) n) := by
  refine (od_at _ _ _ _ _ r n).trans ?_
  rw [ref_od, ref_norm]
  simp only [diffK_tie m c hf, b7_at, funext (diffK_tie m c hf t r _)]

/-- What a point stores of the grouped heads. -/
theorem og_tie (t : Fin cfg0.N) (r : Fin 256) (n : Fin 512) :
    ogAt m c t (ix3 0 r n) = val_main_v81 (F := Ideal) (a1 m c) (a4 m c) (a5 m c) (a8 m c) (a9 m c) (ix3 (batch t) (rowOf t r) n) :=
  (og_at _ _ _ r n).trans (groupK_tie m c hf t r n)

/-- What the last head's rows of a tile are. -/
theorem last_tie (t : Fin cfg0.N) (r : Fin 256) (n : Fin 128) :
    lastAt m c t (ix3 0 r n) = val_main_v80 (F := Ideal) (a0 m c) (a2 m c) (a3 m c) (a6 m c) (a7 m c) (a10 m c) (a11 m c) (ix3 (batch t) (rowOf t r) n) := by
  refine (last_at _ _ _ _ _ r n).trans ?_
  rw [ref_odl, ref_norm]
  simp only [b7_at, funext (diffK_tie m c hf t r _)]

end

end Cert.KernelIdeal.Attn

end
-- ==== Proof.Arrays.lean ====
/-
  The arrays the attention leaves, entry by entry, are the reference's results; and what the precondition says.
-/
module

public import proofs.«01_k».proof.Proof.Tie
public import proofs.«01_k».proof.Proof.Launch
public import Idealize.ShloMosaic.Lib.Pipeline.ArrRel
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL.Sem
open Idealize.ShloMosaic.Pipeline (Dat RDat Cfg Window)
open Cert.KernelIdeal.Gen
open Cert.ReferenceIdeal.Read (val_main_v78 val_main_v80 val_main_v81)

section
variable {nD' : ℕ} {τ' : Topo} {sig' : RefSig} {Val : EltTy → Type} {Λ : Labels} {U : Type} [Idealize.SL.RA.URA U]
  {cfg : Cfg sig' Λ} {c : Dev nD'} (dat : Dat τ' Val Unit ℕ U ℕ cfg c)

/-- What the body may leave, at a point that writes it back, in a window that is not held to a predicate is what the data name. -/
theorem left_exact (fgt : Fin cfg.W → Bool) (Rl : (w : Fin cfg.W) → (t : Fin cfg.N) → ((cfg.win w).block.Idx → Val (cfg.win w).elt) → Prop)
    {w : Fin cfg.W} {t : Fin cfg.N} {X : (cfg.win w).block.Idx → Val (cfg.win w).elt} (h : fgt w = false) (hl : cfg.loose w = false)
    (hf : (cfg.win w).flush t = true) (hX : (dat.toRRel fgt Rl).Leaves w t X) : X = dat.after w t := by
  obtain ⟨_, _, hX⟩ := hX
  rw [dat.toRRel_after_of_eq_false h] at hX
  have hX : dat.Leaves w t X := hX
  unfold Dat.Leaves at hX
  rw [hf, hl] at hX
  cases hi : cfg.idle w (cfg.grid.coords t) <;> rw [hi] at hX <;> exact hX

end

section
variable (m : (ℓ : Loc nD τ sig) → Buf (Elt Ideal) ℓ) (c : Dev nD)

/-- A batch's last point writes the rows of all of the batch's tiles: its block is indexed by the array's rows. -/
theorem point_of (t : Fin cfg0.N) (h : t.val % 16 = 15) (r : Fin 4096) :
    batch (rowPt t r) = batch t ∧ rowOf (rowPt t r) (rowIn r) = r := by
  have hr := r.isLt
  refine ⟨Fin.ext ?_, Fin.ext ?_⟩
  · show (16 * (t.val / 16) + r.val / 256) / 16 = t.val / 16; omega
  · show 256 * ((16 * (t.val / 16) + r.val / 256) % 16) + r.val % 256 = r.val; omega

variable (hf : Finite m c) (after : (w : Fin cfg0.W) → Fin cfg0.N → (cfg0.win w).block.Idx → Elt Ideal (cfg0.win w).elt)
include hf

/-- The first three heads' array. -/
theorem arr_od (h : ∀ t, (cfg0.win 8).flush t = true → after 8 t = odAt m c t) :
    ((rdat m c).withAfter after).arrAt 8 cfg0.N
      = val_main_v78 (F := Ideal) (a0 m c) (a2 m c) (a3 m c) (a6 m c) (a7 m c) (a10 m c) (a11 m c) := by
  refine Dat.arrAt_eq_of_covers _ 8 _ (by decide +kernel) fun t hft y => ?_
  blk_simp
  rw [RDat.withAfter_after, h t hft]
  obtain ⟨r, n, e⟩ : ∃ r n, (y : S1x256x384.Idx) = ix3 0 r n := ⟨y 1, y 2, by funext a; fin_cases a <;> first | rfl | exact Fin.ext (by have := (y 0).isLt; simp at this ⊢)⟩
  rw [e]
  refine (od_tie m c hf t r n).trans (congrArg _ ?_)
  blk_ext [index8 t, batch, rowOf]

/-- The grouped heads' array. -/
theorem arr_og (h : ∀ t, (cfg0.win 9).flush t = true → after 9 t = ogAt m c t) :
    ((rdat m c).withAfter after).arrAt 9 cfg0.N
      = val_main_v81 (F := Ideal) (a1 m c) (a4 m c) (a5 m c) (a8 m c) (a9 m c) := by
  refine Dat.arrAt_eq_of_covers _ 9 _ (by decide +kernel) fun t hft y => ?_
  blk_simp
  rw [RDat.withAfter_after, h t hft]
  obtain ⟨r, n, e⟩ : ∃ r n, (y : S1x256x512.Idx) = ix3 0 r n := ⟨y 1, y 2, by funext a; fin_cases a <;> first | rfl | exact Fin.ext (by have := (y 0).isLt; simp at this ⊢)⟩
  rw [e]
  refine (og_tie m c hf t r n).trans (congrArg _ ?_)
  blk_ext [index9 t, batch, rowOf]

/-- The last head's array. -/
theorem arr_odl (h : ∀ t, (cfg0.win 10).flush t = true → Rows m c t (after 10 t)) :
    ((rdat m c).withAfter after).arrAt 10 cfg0.N
      = val_main_v80 (F := Ideal) (a0 m c) (a2 m c) (a3 m c) (a6 m c) (a7 m c) (a10 m c) (a11 m c) := by
  refine Dat.arrAt_eq_of_covers _ 10 _ (by decide +kernel) fun t hft y => ?_
  have ht : t.val % 16 = 15 := (show ∀ t : Fin cfg0.N, (cfg0.win 10).flush t = true → t.val % 16 = 15 by decide +kernel) t hft
  blk_simp
  rw [RDat.withAfter_after]
  obtain ⟨r, n, e⟩ : ∃ r n, (y : S1x4096x128.Idx) = ix3 0 r n := ⟨y 1, y 2, by funext a; fin_cases a <;> first | rfl | exact Fin.ext (by have := (y 0).isLt; simp at this ⊢)⟩
  rw [e]
  refine (h t hft r n (Or.inr ht)).trans ((last_tie m c hf _ _ n).trans (congrArg _ ?_))
  rw [(point_of t ht r).1, (point_of t ht r).2]
  blk_ext [index10 t, batch]

end

section
variable (m : (ℓ : Loc nD τ sig) → Buf (Elt Ideal) ℓ) (c : Dev nD)

/-- After a run the results are the reference's. -/
theorem results (r) (h : RDat.FramePost cfg0 (rdat m) (V m) r) (hf : Finite m c) :
    r.2.mem (c.tc.loc main_v21_0) = val_main_v78 (F := Ideal) (a0 m c) (a2 m c) (a3 m c) (a6 m c) (a7 m c) (a10 m c) (a11 m c)
      ∧ r.2.mem (c.tc.loc main_v21_2) = val_main_v80 (F := Ideal) (a0 m c) (a2 m c) (a3 m c) (a6 m c) (a7 m c) (a10 m c) (a11 m c)
      ∧ r.2.mem (c.tc.loc main_v21_1) = val_main_v81 (F := Ideal) (a1 m c) (a4 m c) (a5 m c) (a8 m c) (a9 m c) := by
  obtain ⟨after, hL, hA⟩ := h.exists_exact c
  refine ⟨(hA 8).trans (arr_od m c hf after fun t ht => ?_), (hA 10).trans (arr_odl m c hf after fun t ht => ?_), (hA 9).trans (arr_og m c hf after fun t ht => ?_)⟩
  · exact (left_exact (dats m 0 c) fgt (Rl m c) (w := 8) rfl rfl ht (hL 8 t ht)).trans (after_8 m c t)
  · exact Dat.toRRel_leaves (fgt := fgt) (Rl := Rl m c) (w := 10) _ rfl (hL 10 t ht)
  · exact (left_exact (dats m 0 c) fgt (Rl m c) (w := 9) rfl rfl ht (hL 9 t ht)).trans (after_9 m c t)

end

end Cert.KernelIdeal.Attn

end
-- ==== Proof.Finite.lean ====
/-
  The precondition: every entry of every argument but the gains is a real.
-/
module

public import proofs.«01_k».proof.Defs
public import proofs.«01_k».proof.Proof.Tie

@[expose] public section

noncomputable section

namespace Cert.Attn

open Idealize.ShloMosaic

/-- The shape relations the precondition's operations take. -/
theorem pre_facts : Cert.Pre_finite.Facts where
  bcast_S_S4x4096x4x2x64 := by decide
  bcast_S_S4x4096x2x4x64 := by decide
  bcast_S_S4x4096x4x128 := by decide
  bcast_S_S4x4096x2x64 := by decide
  bcast_S_S4x256x4x2x64 := by decide
  bcast_S_S4x256x4x128 := by decide
  bcast_S_S4x256x2x64 := by decide
  bcast_S_S4x64 := by decide

/-- Entries whose absolute values lie under infinity are reals. -/
theorem real_of_below {s : Shape} (x : FVec Ideal s .f32) (hb : Cert.Pre_finite.S_.BroadcastsInDim s (![] : Fin 0 → Fin s.rank))
    (h : cmpf .olt (Host.absf x) (broadcastInDim s ![] hb (constant (F := Ideal) Cert.Pre_finite.S_ .f32 0x7F800000#32)) = fun _ => 1#1) : AllReal x := by
  refine ⟨fun i => (x i).toReal, fun i => ?_⟩
  have hi := congrFun h i
  have hi : BitVec.ofBool (decide (max (x i) (-(x i)) < Ideal.ofBits .f32 0x7F800000#32)) = 1#1 := hi
  rw [bits_top] at hi
  have hlt : max (x i) (-(x i)) < ⊤ := by
    by_contra hc
    rw [decide_eq_false hc] at hi
    exact absurd hi (by decide)
  refine (EReal.coe_toReal (fun e => ?_) fun e => ?_).symm
  · rw [e] at hlt; exact absurd hlt (by simp)
  · rw [e] at hlt; exact absurd hlt (by simp)

/-- What the precondition says of a device's arguments. -/
theorem finite_of (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) : Cert.KernelIdeal.Attn.Finite m c := by
  obtain ⟨h0, h1, h2, h3, h4, h5, h6, h7, h8, h9, h10⟩ := h c
  exact ⟨real_of_below _ _ h0, real_of_below _ _ h1, real_of_below _ _ h2, real_of_below _ _ h3, real_of_below _ _ h4, real_of_below _ _ h5,
    real_of_below _ _ h6, real_of_below _ _ h7, real_of_below _ _ h8, real_of_below _ _ h9, real_of_below _ _ h10⟩

end Cert.Attn

end
-- ==== Proof.Rows.lean ====
/-
  One row of the model's width, and what the projections' calls make of it: the row over the root of its mean square with gains, the
  row modulated, a squared positive part of a product. No program here.
-/
module

public import Idealize.ShloMosaic.PureOps.Ideal.Laws

@[expose] public section

noncomputable section

namespace Cert.Rows

open Idealize.ShloMosaic
open scoped BigOperators

/-- A row over the root of its mean square, times the gains. -/
def rms (v g : Fin 1024 → EReal) (n : Fin 1024) : EReal :=
  v n * Ideal.rsqrt (Ideal.div (∑ k, v k * v k) (Ideal.ofBits .f32 0x44800000#32) + Ideal.ofBits .f32 0x358637BD#32) * g n

/-- A normalised row, scaled by one plus the scales and shifted. -/
def modulated (x g sc sh : Fin 1024 → EReal) (n : Fin 1024) : EReal :=
  rms x g n * (Ideal.ofBits .f32 0x3F800000#32 + sc n) + sh n

/-- The square of the positive part of a row against a column. -/
def sqrelu (h w : Fin 1024 → EReal) : EReal := max (∑ k, h k * w k) 0 * max (∑ k, h k * w k) 0

/-- A row through the two products, the middle squared after its positive part. -/
def mlp (h : Fin 1024 → EReal) (w1 : Fin 1024 → Fin 4096 → EReal) (w2 : Fin 4096 → Fin 1024 → EReal) (n : Fin 1024) : EReal :=
  ∑ j, sqrelu h (fun k => w1 k j) * w2 j n

/-- A row and, through a gate, its normalised update. -/
def gated (x gate upd g : Fin 1024 → EReal) (n : Fin 1024) : EReal := x n + gate n * rms upd g n

/-- A gate: the logistic of a row against a column. -/
def gate (h w : Fin 1024 → EReal) : EReal := Ideal.logistic (∑ k, h k * w k)

/-- Three heads' columns and the last head's after them. -/
def joined (a : Fin 384 → EReal) (b : Fin 128 → EReal) (k : Fin 512) : EReal :=
  if hk : (k : ℕ) < 384 then a ⟨k, hk⟩ else b ⟨k - 384, by omega⟩

/-- The four branches projected and summed, each through its gate. -/
def branches (h : Fin 1024 → EReal) (wg : Fin 1024 → Fin 4096 → EReal) (yf : Fin 384 → EReal) (od og : Fin 512 → EReal) (yc : Fin 384 → EReal)
    (wf : Fin 384 → Fin 1024 → EReal) (wd wq : Fin 512 → Fin 1024 → EReal) (wc : Fin 384 → Fin 1024 → EReal) (n : Fin 1024) : EReal :=
  gate h (fun k => wg k ⟨n, by omega⟩) * (∑ k, yf k * wf k n) + gate h (fun k => wg k ⟨1024 + n, by omega⟩) * (∑ k, od k * wd k n)
    + gate h (fun k => wg k ⟨2048 + n, by omega⟩) * (∑ k, og k * wq k n) + gate h (fun k => wg k ⟨3072 + n, by omega⟩) * (∑ k, yc k * wc k n)

/-- A row through a product. -/
def proj (u : Fin 1024 → EReal) (w : Fin 1024 → Fin 1024 → EReal) (n : Fin 1024) : EReal := ∑ k, u k * w k n

/-- A sum over 4096 in four runs of 1024. -/
theorem sum_runs (f : Fin 4096 → EReal) :
    ∑ j, f j = (∑ j : Fin 1024, f ⟨j, by omega⟩) + (∑ j : Fin 1024, f ⟨1024 + j, by omega⟩) + (∑ j : Fin 1024, f ⟨2048 + j, by omega⟩)
      + ∑ j : Fin 1024, f ⟨3072 + j, by omega⟩ := by
  have h : ∀ g : Fin (1024 + 1024 + 1024 + 1024) → EReal, ∑ j, g j = (∑ j : Fin 1024, g ⟨j, by omega⟩) + (∑ j : Fin 1024, g ⟨1024 + j, by omega⟩)
      + (∑ j : Fin 1024, g ⟨2048 + j, by omega⟩) + ∑ j : Fin 1024, g ⟨3072 + j, by omega⟩ := fun g => by
    rw [Fin.sum_univ_add, Fin.sum_univ_add, Fin.sum_univ_add]
    rfl
  exact h f

end Cert.Rows
-- ==== Proof.Mlp.lean ====
/-
  The feed-forward call's body read at an index: every entry of its block as a formula over entries of its inputs' blocks.
-/
module

public import proofs.«01_k».proof.Proof.Gen.Kernel2Ideal.Value
public import proofs.«01_k».proof.Proof.Rows
public import Idealize.ShloMosaic.Lib.Pointwise
public import Idealize.ShloMosaic.Lib.Pipeline.ValueKit

@[expose] public section

set_option maxRecDepth 16384

noncomputable section

namespace Cert.Kernel2Ideal.Mlp

open Idealize.ShloMosaic Idealize.ShloMosaic.TcCoe Idealize.ShloMosaic.Tactic
open Cert.Kernel2Ideal Cert.Kernel2Ideal.Gen
open Cert.Rows

/-- The block's rows, without the leading axis. -/
theorem pay2_at (x : Vec Ideal S1x512x1024 .f32) (r : Fin 512) (n : Fin 1024) : k0_pay2 x (ix2 r n) = x (ix3 0 r n) := by
  pointwise [k0_pay2]

/-- The modulated row. -/
theorem pay3_at (x : Vec Ideal S1x512x1024 .f32) (g : Vec Ideal S1x1024 .f32) (sh sc : Vec Ideal S1x1x1024 .f32) (r : Fin 512) (n : Fin 1024) :
    k0_pay3 x g sh sc (ix2 r n)
      = modulated (fun k => x (ix3 0 r k)) (fun k => g (ix2 0 k)) (fun k => sc (ix3 0 0 k)) (fun k => sh (ix3 0 0 k)) n := by
  pointwise [k0_pay3, k0_pay2, modulated, rms]

/-- The first run of the middle. -/
theorem pay4_at (x : Vec Ideal S1x512x1024 .f32) (g : Vec Ideal S1x1024 .f32) (sh sc : Vec Ideal S1x1x1024 .f32) (w : Vec Ideal S1024x1024 .bf16) (r : Fin 512) (n : Fin 1024) :
    k0_pay4 x g sh sc w (ix2 r n) = sqrelu (fun k => k0_pay3 x g sh sc (ix2 r k)) (fun k => w (ix2 k n)) := by
  unfold k0_pay4
  generalize k0_pay3 x g sh sc = h
  pointwise [sqrelu]

/-- The four runs, each against its rows of the second weights. -/
theorem pay6_at (h u : FVec Ideal S512x1024 .bf16) (w : FVec Ideal S1024x1024 .bf16) (a1 b1 a2 b2 a3 b3 : Vec Ideal S1024x1024 .bf16) (r : Fin 512) (n : Fin 1024) :
    k0_pay6 h u w (constant S512x1024 .f32 0x00000000#32) a1 b1 a2 b2 a3 b3 (ix2 r n)
      = (∑ j : Fin 1024, u (ix2 r j) * w (ix2 j n))
        + (∑ j : Fin 1024, sqrelu (fun k => h (ix2 r k)) (fun k => a1 (ix2 k j)) * b1 (ix2 j n))
        + (∑ j : Fin 1024, sqrelu (fun k => h (ix2 r k)) (fun k => a2 (ix2 k j)) * b2 (ix2 j n))
        + ∑ j : Fin 1024, sqrelu (fun k => h (ix2 r k)) (fun k => a3 (ix2 k j)) * b3 (ix2 j n) := by
  pointwise [k0_pay6, sqrelu]

/-- The row and its gated, normalised update. -/
theorem pay1_at (x a : FVec Ideal S512x1024 .f32) (gate : FVec Ideal S1x1024 .f32) (g : Vec Ideal S1x1024 .f32) (r : Fin 512) (n : Fin 1024) :
    k0_pay1 x a gate g (ix3 0 r n)
      = gated (fun k => x (ix2 r k)) (fun k => gate (ix2 0 k)) (fun k => a (ix2 r k)) (fun k => g (ix2 0 k)) n := by
  pointwise [k0_pay1, gated, rms]

/-- Second weights, unchanged. -/
theorem pay5_at (w : Vec Ideal S1024x1024 .bf16) (r n : Fin 1024) : k0_pay5 w (ix2 r n) = w (ix2 r n) := by
  pointwise [k0_pay5]

/-- The gates' row. -/
theorem pay7_at (w : Vec Ideal S1x1x1024 .f32) (n : Fin 1024) : k0_pay7 w (ix2 0 n) = w (ix3 0 0 n) := by
  pointwise [k0_pay7]

end Cert.Kernel2Ideal.Mlp
-- ==== Proof.MlpRead.lean ====
/-
  The feed-forward reference read at an index: every entry of its result as a formula over entries of the arguments.
-/
module

public import proofs.«01_k».proof.Proof.Gen.Reference2Ideal.Read
public import proofs.«01_k».proof.Proof.Rows
public import Idealize.ShloMosaic.Lib.Pointwise

@[expose] public section

set_option maxRecDepth 16384

noncomputable section

namespace Cert.Reference2Ideal.Mlp

open Idealize.ShloMosaic Cert.Reference2Ideal Cert.Reference2Ideal.Read
open Cert.Rows

/-- A row of the residual stream, modulated by the fourth and fifth of the six vectors. -/
def hrow (x0 : S4x4096x1024.Idx → EReal) (x1 : S4x1x6144.Idx → EReal) (x2 : S1024.Idx → EReal) (b : Fin 4) (l : Fin 4096) : Fin 1024 → EReal :=
  modulated (fun k => x0 (ix3 b l k)) (fun k => x2 (ix1 k)) (fun k => x1 (ix3 b 0 ⟨4096 + k, by omega⟩)) (fun k => x1 (ix3 b 0 ⟨3072 + k, by omega⟩))

/-- The feed-forward's result: a row, and its gated and normalised update. -/
def result (x0 : S4x4096x1024.Idx → EReal) (x1 : S4x1x6144.Idx → EReal) (x2 : S1024.Idx → EReal) (x3 : S1024x4096.Idx → EReal)
    (x4 : S4096x1024.Idx → EReal) (x5 : S1024.Idx → EReal) (b : Fin 4) (l : Fin 4096) (n : Fin 1024) : EReal :=
  gated (fun k => x0 (ix3 b l k)) (fun k => x1 (ix3 b 0 ⟨5120 + k, by omega⟩))
    (mlp (hrow x0 x1 x2 b l) (fun k j => x3 (ix2 k j)) (fun j k => x4 (ix2 j k))) (fun k => x5 (ix1 k)) n

section
variable (x0 : (⟨S4x4096x1024, .f32⟩ : BufTy).Contents (Elt Ideal)) (x1 : (⟨S4x1x6144, .f32⟩ : BufTy).Contents (Elt Ideal))
  (x2 : (⟨S1024, .f32⟩ : BufTy).Contents (Elt Ideal)) (x3 : (⟨S1024x4096, .f32⟩ : BufTy).Contents (Elt Ideal))
  (x4 : (⟨S4096x1024, .f32⟩ : BufTy).Contents (Elt Ideal)) (x5 : (⟨S1024, .f32⟩ : BufTy).Contents (Elt Ideal))

/-- The modulated row. -/
theorem ref_h (b : Fin 4) (l : Fin 4096) (n : Fin 1024) : val_main_v24 (F := Ideal) x0 x1 x2 (ix3 b l n) = hrow x0 x1 x2 b l n := by
  pointwise [val_main_v24, val_main_v23, val_main_v22, val_main_v21, val_main_v20, val_main_v19, val_main_cst_2, val_main_v18, val_main_v17, val_main_v16, val_main_v15, val_main_v14, val_main_v13, val_main_v12, val_main_v11, val_main_cst_1, val_main_v10, val_main_v9, val_main_cst_0, val_main_v8, val_main_v7, val_main_cst, val_main_v6, val_main_v4, val_main_v3, hrow, modulated, rms]

/-- The middle. -/
theorem ref_mid (b : Fin 4) (l : Fin 4096) (j : Fin 4096) :
    val_main_v27 (F := Ideal) x0 x1 x2 x3 (ix3 b l j) = sqrelu (hrow x0 x1 x2 b l) (fun k => x3 (ix2 k j)) := by
  have e : (fun k => hrow x0 x1 x2 b l k) = fun k => val_main_v24 (F := Ideal) x0 x1 x2 (ix3 b l k) := funext fun k => (ref_h x0 x1 x2 b l k).symm
  rw [show hrow x0 x1 x2 b l = _ from e]
  unfold val_main_v27 val_main_v26 val_main_v25
  generalize val_main_v24 (F := Ideal) x0 x1 x2 = h
  pointwise [val_main_call0_v0, val_main_call0_cst, sqrelu]

/-- The update before its normalisation. -/
theorem ref_upd (b : Fin 4) (l : Fin 4096) (n : Fin 1024) :
    val_main_v28 (F := Ideal) x0 x1 x2 x3 x4 (ix3 b l n) = mlp (hrow x0 x1 x2 b l) (fun k j => x3 (ix2 k j)) (fun j k => x4 (ix2 j k)) n := by
  unfold mlp
  simp only [← ref_mid x0 x1 x2 x3 b l]
  unfold val_main_v28
  generalize val_main_v27 (F := Ideal) x0 x1 x2 x3 = u
  pointwise []

/-- The reference's result. -/
theorem ref_result (b : Fin 4) (l : Fin 4096) (n : Fin 1024) :
    val_main_v44 (F := Ideal) x0 x1 x2 x3 x4 x5 (ix3 b l n) = result x0 x1 x2 x3 x4 x5 b l n := by
  unfold result
  rw [show mlp (hrow x0 x1 x2 b l) (fun k j => x3 (ix2 k j)) (fun j k => x4 (ix2 j k)) = fun k => val_main_v28 (F := Ideal) x0 x1 x2 x3 x4 (ix3 b l k) from
    funext fun k => (ref_upd x0 x1 x2 x3 x4 b l k).symm]
  unfold val_main_v44 val_main_v43 val_main_v42 val_main_v41 val_main_v40 val_main_v39 val_main_v38 val_main_v37 val_main_v36 val_main_v35 val_main_v33 val_main_v31 val_main_v30 val_main_v29
  generalize val_main_v28 (F := Ideal) x0 x1 x2 x3 x4 = u
  pointwise [val_main_v34, val_main_cst_5, val_main_v32, val_main_cst_4, val_main_cst_3, val_main_v5, gated, rms]

end

end Cert.Reference2Ideal.Mlp
-- ==== Proof.MlpTie.lean ====
/-
  The array the feed-forward call leaves is the reference's result: the blocks of its inputs are entries of the arguments, and every
  block written back is the formula of the reference at the block's rows.
-/
module

public import proofs.«01_k».proof.Proof.Mlp
public import proofs.«01_k».proof.Proof.MlpRead
public import Idealize.ShloMosaic.Lib.Claim

@[expose] public section

set_option maxRecDepth 16384

noncomputable section

namespace Cert.Kernel2Ideal.Mlp

open Idealize.ShloMosaic Idealize.ShloMosaic.TcCoe Idealize.ShloMosaic.Tactic
open Cert.Kernel2Ideal Cert.Kernel2Ideal.Gen
open Cert.Rows

theorem index0 : ∀ t : Fin grid0.N, win0_0.index t = ![t.val / 8, t.val % 8, 0] := by decide +kernel
theorem index1 : ∀ t : Fin grid0.N, win0_1.index t = ![t.val / 8, 0, 3] := by decide +kernel
theorem index2 : ∀ t : Fin grid0.N, win0_2.index t = ![t.val / 8, 0, 4] := by decide +kernel
theorem index3 : ∀ t : Fin grid0.N, win0_3.index t = ![t.val / 8, 0, 5] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![t.val / 8, t.val % 8, 0] := by decide +kernel

section
variable (m : (ℓ : Loc nD τ sig) → Buf (Elt Ideal) ℓ) (c : Dev nD)

/-- A point's batch. -/
def batch (t : Fin cfg0.N) : Fin 4 := ⟨t.val / 8, by have ht : t.val < 32 := Nat.lt_of_lt_of_eq t.isLt N_0; omega⟩

/-- A tile's row in its array. -/
def rowOf (t : Fin cfg0.N) (r : Fin 512) : Fin 4096 := ⟨512 * (t.val % 8) + r.val, by have hr := r.isLt; omega⟩

/-- The residual stream's rows. -/
theorem b0_at (t : Fin cfg0.N) (r : Fin 512) (n : Fin 1024) :
    (iblk m c 0 t : Vec Ideal S1x512x1024 .f32) (ix3 0 r n) = m (c.tc.loc main_arg0) (ix3 (batch t) (rowOf t r) n) := by
  blk_simp [iblk, V, index0 t]
  entry_read
  exact congrArg (m (c.tc.loc main_arg0)) (by blk_ext [index0 t, batch, rowOf])

/-- The shifts. -/
theorem b1_at (t : Fin cfg0.N) (n : Fin 1024) :
    (iblk m c 1 t : Vec Ideal S1x1x1024 .f32) (ix3 0 0 n) = m (c.tc.loc main_arg1) (ix3 (batch t) 0 ⟨3072 + n, by omega⟩) := by
  blk_simp [iblk, V, index1 t]
  entry_read
  exact congrArg (m (c.tc.loc main_arg1)) (by blk_ext [index1 t, batch])

/-- The scales. -/
theorem b2_at (t : Fin cfg0.N) (n : Fin 1024) :
    (iblk m c 2 t : Vec Ideal S1x1x1024 .f32) (ix3 0 0 n) = m (c.tc.loc main_arg1) (ix3 (batch t) 0 ⟨4096 + n, by omega⟩) := by
  blk_simp [iblk, V, index2 t]
  entry_read
  exact congrArg (m (c.tc.loc main_arg1)) (by blk_ext [index2 t, batch])

/-- The gates. -/
theorem b3_at (t : Fin cfg0.N) (n : Fin 1024) :
    (iblk m c 3 t : Vec Ideal S1x1x1024 .f32) (ix3 0 0 n) = m (c.tc.loc main_arg1) (ix3 (batch t) 0 ⟨5120 + n, by omega⟩) := by
  blk_simp [iblk, V, index3 t]
  entry_read
  exact congrArg (m (c.tc.loc main_arg1)) (by blk_ext [index3 t, batch])

/-- The gains before. -/
theorem b4_at (t : Fin cfg0.N) (n : Fin 1024) :
    (iblk m c 4 t : Vec Ideal S1x1024 .f32) (ix2 0 n) = m (c.tc.loc main_arg2) (ix1 n) := by
  blk_simp [iblk, V, index4 t]
  entry_read
  have e : ((View.whole main_v0).slice (win0_4.rect t)).emb (ix2 0 n) = ix2 0 n := by blk_ext [index4 t]
  refine (congrArg _ e).trans ?_
  show shapeCast S1x1024 _ _ (ix2 0 n) = _
  generalize m (c.tc.loc main_arg2) = y
  pointwise []

/-- The first weights. -/
theorem b5_at (t : Fin cfg0.N) (k : Fin 1024) (j : Fin 4096) :
    (iblk m c 5 t : Vec Ideal S1024x4096 .bf16) (ix2 k j) = m (c.tc.loc main_arg3) (ix2 k j) := by
  blk_simp [iblk, V, index5 t]
  entry_read
  have e : ((View.whole main_v1).slice (win0_5.rect t)).emb (ix2 k j) = ix2 k j := by blk_ext [index5 t]
  exact (congrArg _ e).trans rfl

/-- The second weights. -/
theorem b6_at (t : Fin cfg0.N) (j : Fin 4096) (n : Fin 1024) :
    (iblk m c 6 t : Vec Ideal S4096x1024 .bf16) (ix2 j n) = m (c.tc.loc main_arg4) (ix2 j n) := by
  blk_simp [iblk, V, index6 t]
  entry_read
  have e : ((View.whole main_v2).slice (win0_6.rect t)).emb (ix2 j n) = ix2 j n := by blk_ext [index6 t]
  exact (congrArg _ e).trans rfl

/-- The gains after. -/
theorem b7_at (t : Fin cfg0.N) (n : Fin 1024) :
    (iblk m c 7 t : Vec Ideal S1x1024 .f32) (ix2 0 n) = m (c.tc.loc main_arg5) (ix1 n) := by
  blk_simp [iblk, V, index7 t]
  entry_read
  have e : ((View.whole main_v3).slice (win0_7.rect t)).emb (ix2 0 n) = ix2 0 n := by blk_ext [index7 t]
  refine (congrArg _ e).trans ?_
  show shapeCast S1x1024 _ _ (ix2 0 n) = _
  generalize m (c.tc.loc main_arg5) = y
  pointwise []

end

/-- The body's entries, the weights read in four runs of columns and rows. -/
theorem body_at (x0 : Vec Ideal S1x512x1024 .f32) (x1 x2 x3 : Vec Ideal S1x1x1024 .f32) (x4 : Vec Ideal S1x1024 .f32)
    (x5 : Vec Ideal S1024x4096 .bf16) (x6 : Vec Ideal S4096x1024 .bf16) (x7 : Vec Ideal S1x1024 .f32)
    (a0 b0 a1 b1 a2 b2 a3 b3 : Vec Ideal S1024x1024 .bf16)
    (ha0 : ∀ k j : Fin 1024, a0 (ix2 k j) = x5 (ix2 k ⟨j, by omega⟩)) (hb0 : ∀ j k : Fin 1024, b0 (ix2 j k) = x6 (ix2 ⟨j, by omega⟩ k))
    (ha1 : ∀ k j : Fin 1024, a1 (ix2 k j) = x5 (ix2 k ⟨1024 + j, by omega⟩)) (hb1 : ∀ j k : Fin 1024, b1 (ix2 j k) = x6 (ix2 ⟨1024 + j, by omega⟩ k))
    (ha2 : ∀ k j : Fin 1024, a2 (ix2 k j) = x5 (ix2 k ⟨2048 + j, by omega⟩)) (hb2 : ∀ j k : Fin 1024, b2 (ix2 j k) = x6 (ix2 ⟨2048 + j, by omega⟩ k))
    (ha3 : ∀ k j : Fin 1024, a3 (ix2 k j) = x5 (ix2 k ⟨3072 + j, by omega⟩)) (hb3 : ∀ j k : Fin 1024, b3 (ix2 j k) = x6 (ix2 ⟨3072 + j, by omega⟩ k))
    (r : Fin 512) (n : Fin 1024) :
    k0_pay1 (k0_pay2 x0) (k0_pay6 (k0_pay3 x0 x4 x1 x2) (k0_pay4 x0 x4 x1 x2 a0) (k0_pay5 b0) (constant S512x1024 .f32 0x00000000#32) a1 b1 a2 b2 a3 b3)
        (k0_pay7 x3) x7 (ix3 0 r n)
      = gated (fun k => x0 (ix3 0 r k)) (fun k => x3 (ix3 0 0 k))
          (mlp (modulated (fun k => x0 (ix3 0 r k)) (fun k => x4 (ix2 0 k)) (fun k => x2 (ix3 0 0 k)) (fun k => x1 (ix3 0 0 k)))
            (fun k j => x5 (ix2 k j)) (fun j k => x6 (ix2 j k))) (fun k => x7 (ix2 0 k)) n := by
  rw [pay1_at]
  simp only [pay2_at, pay7_at, pay6_at, pay5_at, pay4_at, pay3_at, ha0, hb0, ha1, hb1, ha2, hb2, ha3, hb3]
  refine congrFun (congrArg (fun u => gated _ _ u _) (funext fun k => ?_)) n
  unfold mlp
  rw [sum_runs]

/-- What the body leaves, from the blocks of its inputs. -/
theorem out_at (x0 : Vec Ideal S1x512x1024 .f32) (x1 x2 x3 : Vec Ideal S1x1x1024 .f32) (x4 : Vec Ideal S1x1024 .f32)
    (x5 : Vec Ideal S1024x4096 .bf16) (x6 : Vec Ideal S4096x1024 .bf16) (x7 : Vec Ideal S1x1024 .f32) (r : Fin 512) (n : Fin 1024) :
    out0_8 x0 x1 x2 x3 x4 x5 x6 x7 (ix3 0 r n)
      = gated (fun k => x0 (ix3 0 r k)) (fun k => x3 (ix3 0 0 k))
          (mlp (modulated (fun k => x0 (ix3 0 r k)) (fun k => x4 (ix2 0 k)) (fun k => x2 (ix3 0 0 k)) (fun k => x1 (ix3 0 0 k)))
            (fun k j => x5 (ix2 k j)) (fun j k => x6 (ix2 j k))) (fun k => x7 (ix2 0 k)) n := by
  have z2 : (![0, 0] : Fin 2 → ℕ) = fun _ => 0 := by funext a; fin_cases a <;> rfl
  have z3 : (![0, 0, 0] : Fin 3 → ℕ) = fun _ => 0 := by funext a; fin_cases a <;> rfl
  have e0 : View.ld x0 r0_0 = x0 := View.ld_unit_zero z3 _ x0
  have e1 : View.ld x1 r0_2 = x1 := View.ld_unit_zero z3 _ x1
  have e2 : View.ld x2 r0_2 = x2 := View.ld_unit_zero z3 _ x2
  have e3 : View.ld x3 r0_2 = x3 := View.ld_unit_zero z3 _ x3
  have e4 : View.ld x4 r0_1 = x4 := View.ld_unit_zero z2 _ x4
  have e7 : View.ld x7 r0_1 = x7 := View.ld_unit_zero z2 _ x7
  unfold out0_8
  rw [e0, e1, e2, e3, e4, e7]
  refine (congrFun (View.canon_unit_zero z3 _ _) _).trans ?_
  refine body_at x0 x1 x2 x3 x4 x5 x6 x7 _ _ _ _ _ _ _ _ ?_ ?_ ?_ ?_ ?_ ?_ ?_ ?_ r n
  all_goals
    intro a b
    refine View.ld_unit_apply_of _ _ _ _ _ _ fun c => ?_
    fin_cases c <;> simp

section
variable (m : (ℓ : Loc nD τ sig) → Buf (Elt Ideal) ℓ) (c : Dev nD)

/-- The array after the run is the reference's result of the arguments. -/
theorem array : (dats m 0 c).arrAt 8 cfg0.N
    = Cert.Reference2Ideal.Read.val_main_v44 (F := Ideal) (m (c.tc.loc main_arg0)) (m (c.tc.loc main_arg1)) (m (c.tc.loc main_arg2))
        (m (c.tc.loc main_arg3)) (m (c.tc.loc main_arg4)) (m (c.tc.loc main_arg5)) := by
  refine (dats m 0 c).arrAt_eq_of_covers 8 _ (by decide +kernel) fun t hf y => ?_
  blk_simp
  rw [after0_8]
  obtain ⟨r, n, e⟩ : ∃ r n, (y : S1x512x1024.Idx) = ix3 0 r n := ⟨y 1, y 2, by funext a; fin_cases a <;> first | rfl | exact Fin.ext (by have := (y 0).isLt; simp at this ⊢)⟩
  rw [e]
  have i : ((cfg0.win 8).blk t).view.emb (ix3 0 r n) = ix3 (batch t) (rowOf t r) n := by blk_ext [index8 t, batch, rowOf]
  refine (out_at _ _ _ _ _ _ _ _ r n).trans (Eq.trans ?_ (congrArg _ i).symm)
  rw [Cert.Reference2Ideal.Mlp.ref_result]
  simp only [b0_at, b1_at, b2_at, b3_at, b4_at, b5_at, b6_at, b7_at]
  rfl

end

end Cert.Kernel2Ideal.Mlp
-- ==== Proof.Merge.lean ====
/-
  The merging call's body read at an index: every entry of its block as a formula over entries of its inputs' blocks.
-/
module

public import proofs.«01_k».proof.Proof.Gen.Kernel3Ideal.Value
public import proofs.«01_k».proof.Proof.Rows
public import Idealize.ShloMosaic.Lib.Pointwise
public import Idealize.ShloMosaic.Lib.Pipeline.ValueKit

@[expose] public section

set_option maxRecDepth 16384

noncomputable section

namespace Cert.Kernel3Ideal.Merge

open Idealize.ShloMosaic Idealize.ShloMosaic.TcCoe Idealize.ShloMosaic.Tactic
open Cert.Kernel3Ideal Cert.Kernel3Ideal.Gen
open Cert.Rows

/-- The block's rows, without the leading axis. -/
theorem pay2_at (x : Vec Ideal S1x512x1024 .f32) (r : Fin 512) (n : Fin 1024) : k0_pay2 x (ix2 r n) = x (ix3 0 r n) := by
  pointwise [k0_pay2]

/-- The modulated row. -/
theorem pay3_at (x : Vec Ideal S1x512x1024 .f32) (g : Vec Ideal S1x1024 .f32) (sh sc : Vec Ideal S1x1x1024 .f32) (r : Fin 512) (n : Fin 1024) :
    k0_pay3 x g sh sc (ix2 r n)
      = modulated (fun k => x (ix3 0 r k)) (fun k => g (ix2 0 k)) (fun k => sc (ix3 0 0 k)) (fun k => sh (ix3 0 0 k)) n := by
  pointwise [k0_pay3, k0_pay2, modulated, rms]

/-- Three heads' columns and the last head's. -/
theorem pay4_at (a : Vec Ideal S1x512x384 .bf16) (b : Vec Ideal S1x512x128 .bf16) (r : Fin 512) (k : Fin 512) :
    k0_pay4 a b (ix2 r k) = joined (fun k => a (ix3 0 r k)) (fun k => b (ix3 0 r k)) k := by
  unfold joined
  pointwise [k0_pay4]

theorem pay5_at (a : Vec Ideal S1x512x384 .bf16) (r : Fin 512) (k : Fin 384) : k0_pay5 a (ix2 r k) = a (ix3 0 r k) := by
  pointwise [k0_pay5]

theorem pay6_at (a : Vec Ideal S1x512x384 .bf16) (r : Fin 512) (k : Fin 384) : k0_pay6 a (ix2 r k) = a (ix3 0 r k) := by
  pointwise [k0_pay6]

/-- The first three branches, each through its gate. -/
theorem pay7_at (h : FVec Ideal S512x1024 .bf16) (od : FVec Ideal S512x512 .bf16) (yf : FVec Ideal S512x384 .bf16) (og : Vec Ideal S1x512x512 .bf16)
    (g0 : Vec Ideal S1024x1024 .bf16) (wf : Vec Ideal S384x1024 .bf16) (g1 : Vec Ideal S1024x1024 .bf16) (wd : Vec Ideal S512x1024 .bf16)
    (g2 : Vec Ideal S1024x1024 .bf16) (wq : Vec Ideal S512x1024 .bf16) (r : Fin 512) (n : Fin 1024) :
    k0_pay7 h od yf og g0 wf g1 wd g2 wq (ix2 r n)
      = gate (fun k => h (ix2 r k)) (fun k => g0 (ix2 k n)) * (∑ k : Fin 384, yf (ix2 r k) * wf (ix2 k n))
        + gate (fun k => h (ix2 r k)) (fun k => g1 (ix2 k n)) * (∑ k : Fin 512, od (ix2 r k) * wd (ix2 k n))
        + gate (fun k => h (ix2 r k)) (fun k => g2 (ix2 k n)) * (∑ k : Fin 512, og (ix3 0 r k) * wq (ix2 k n)) := by
  pointwise [k0_pay7, gate]

/-- The last gate before its logistic. -/
theorem pay8_at (h : FVec Ideal S512x1024 .bf16) (g3 : Vec Ideal S1024x1024 .bf16) (r : Fin 512) (n : Fin 1024) :
    k0_pay8 h g3 (ix2 r n) = ∑ k : Fin 1024, h (ix2 r k) * g3 (ix2 k n) := by
  pointwise [k0_pay8]

/-- The row and its gated, normalised update: the last branch added, the sum projected. -/
theorem pay1_at (x : FVec Ideal S512x1024 .f32) (yc : FVec Ideal S512x384 .bf16) (a z : FVec Ideal S512x1024 .f32) (wc : Vec Ideal S384x1024 .bf16)
    (wo : Vec Ideal S1024x1024 .bf16) (gt : Vec Ideal S1x1x1024 .f32) (g : Vec Ideal S1x1024 .f32) (r : Fin 512) (n : Fin 1024) :
    k0_pay1 x yc a z wc wo gt g (ix3 0 r n)
      = gated (fun k => x (ix2 r k)) (fun k => gt (ix3 0 0 k))
          (proj (fun k => a (ix2 r k) + Ideal.logistic (z (ix2 r k)) * (∑ q : Fin 384, yc (ix2 r q) * wc (ix2 q k))) (fun j k => wo (ix2 j k)))
          (fun k => g (ix2 0 k)) n := by
  pointwise [k0_pay1, gated, rms, proj]

end Cert.Kernel3Ideal.Merge
-- ==== Proof.MergeRead.lean ====
/-
  The merging reference read at an index: every entry of its result as a formula over entries of the arguments.
-/
module

public import proofs.«01_k».proof.Proof.Gen.Reference3Ideal.Read
public import proofs.«01_k».proof.Proof.Rows
public import Idealize.ShloMosaic.Lib.Pointwise

@[expose] public section

set_option maxRecDepth 16384

noncomputable section

namespace Cert.Reference3Ideal.Merge

open Idealize.ShloMosaic Cert.Reference3Ideal Cert.Reference3Ideal.Read
open Cert.Rows

/-- A row of the residual stream, modulated by the first two of the six vectors. -/
def hrow (x0 : S4x4096x1024.Idx → EReal) (x1 : S4x1x6144.Idx → EReal) (x2 : S1024.Idx → EReal) (b : Fin 4) (l : Fin 4096) : Fin 1024 → EReal :=
  modulated (fun k => x0 (ix3 b l k)) (fun k => x2 (ix1 k)) (fun k => x1 (ix3 b 0 ⟨1024 + k, by omega⟩)) (fun k => x1 (ix3 b 0 ⟨k, by omega⟩))

/-- The merged branches of a row. -/
def mrow (h : Fin 1024 → EReal) (x3 : S1024x4096.Idx → EReal)
    (x4 x5 : S4x4096x384.Idx → EReal) (x6 : S4x4096x128.Idx → EReal) (x7 : S4x4096x512.Idx → EReal) (x8 : S4x4096x384.Idx → EReal)
    (x9 : S384x1024.Idx → EReal) (x10 x11 : S512x1024.Idx → EReal) (x12 : S384x1024.Idx → EReal) (b : Fin 4) (l : Fin 4096) : Fin 1024 → EReal :=
  branches h (fun k j => x3 (ix2 k j)) (fun k => x4 (ix3 b l k))
    (joined (fun k => x5 (ix3 b l k)) (fun k => x6 (ix3 b l k))) (fun k => x7 (ix3 b l k)) (fun k => x8 (ix3 b l k))
    (fun k j => x9 (ix2 k j)) (fun k j => x10 (ix2 k j)) (fun k j => x11 (ix2 k j)) (fun k j => x12 (ix2 k j))

/-- The merge's result: a row, and its gated and normalised update. -/
def result (x0 : S4x4096x1024.Idx → EReal) (x1 : S4x1x6144.Idx → EReal) (x2 : S1024.Idx → EReal) (x3 : S1024x4096.Idx → EReal)
    (x4 x5 : S4x4096x384.Idx → EReal) (x6 : S4x4096x128.Idx → EReal) (x7 : S4x4096x512.Idx → EReal) (x8 : S4x4096x384.Idx → EReal)
    (x9 : S384x1024.Idx → EReal) (x10 x11 : S512x1024.Idx → EReal) (x12 : S384x1024.Idx → EReal) (x13 : S1024x1024.Idx → EReal)
    (x14 : S1024.Idx → EReal) (b : Fin 4) (l : Fin 4096) (n : Fin 1024) : EReal :=
  gated (fun k => x0 (ix3 b l k)) (fun k => x1 (ix3 b 0 ⟨2048 + k, by omega⟩))
    (proj (mrow (hrow x0 x1 x2 b l) x3 x4 x5 x6 x7 x8 x9 x10 x11 x12 b l) (fun j k => x13 (ix2 j k))) (fun k => x14 (ix1 k)) n

section
variable (x0 : (⟨S4x4096x1024, .f32⟩ : BufTy).Contents (Elt Ideal)) (x1 : (⟨S4x1x6144, .f32⟩ : BufTy).Contents (Elt Ideal))
  (x2 : (⟨S1024, .f32⟩ : BufTy).Contents (Elt Ideal)) (x3 : (⟨S1024x4096, .f32⟩ : BufTy).Contents (Elt Ideal))
  (x4 x5 : (⟨S4x4096x384, .bf16⟩ : BufTy).Contents (Elt Ideal)) (x6 : (⟨S4x4096x128, .bf16⟩ : BufTy).Contents (Elt Ideal))
  (x7 : (⟨S4x4096x512, .bf16⟩ : BufTy).Contents (Elt Ideal)) (x8 : (⟨S4x4096x384, .bf16⟩ : BufTy).Contents (Elt Ideal))
  (x9 : (⟨S384x1024, .f32⟩ : BufTy).Contents (Elt Ideal)) (x10 x11 : (⟨S512x1024, .f32⟩ : BufTy).Contents (Elt Ideal))
  (x12 : (⟨S384x1024, .f32⟩ : BufTy).Contents (Elt Ideal)) (x13 : (⟨S1024x1024, .f32⟩ : BufTy).Contents (Elt Ideal))
  (x14 : (⟨S1024, .f32⟩ : BufTy).Contents (Elt Ideal))

/-- The modulated row. -/
theorem ref_h (b : Fin 4) (l : Fin 4096) (n : Fin 1024) : val_main_v24 (F := Ideal) x0 x1 x2 (ix3 b l n) = hrow x0 x1 x2 b l n := by
  pointwise [val_main_v24, val_main_v23, val_main_v22, val_main_v21, val_main_v20, val_main_v19, val_main_cst_2, val_main_v18, val_main_v17, val_main_v16, val_main_v15, val_main_v14, val_main_v13, val_main_v12, val_main_v11, val_main_cst_1, val_main_v10, val_main_v9, val_main_cst_0, val_main_v8, val_main_v7, val_main_cst, val_main_v6, val_main_v1, val_main_v0, hrow, modulated, rms]

/-- A gate. -/
theorem ref_gate (b : Fin 4) (l : Fin 4096) (j : Fin 4096) :
    val_main_v34 (F := Ideal) x0 x1 x2 x3 (ix3 b l j) = gate (hrow x0 x1 x2 b l) (fun k => x3 (ix2 k j)) := by
  have e : (fun k => hrow x0 x1 x2 b l k) = fun k => val_main_v24 (F := Ideal) x0 x1 x2 (ix3 b l k) := funext fun k => (ref_h x0 x1 x2 b l k).symm
  rw [show hrow x0 x1 x2 b l = _ from e]
  unfold val_main_v34 val_main_v32 val_main_v30 val_main_v29 val_main_v28
  generalize val_main_v24 (F := Ideal) x0 x1 x2 = h
  pointwise [val_main_v33, val_main_cst_4, val_main_v31, val_main_cst_3, gate, Ideal.logistic]

/-- The differential branch's heads side by side. -/
theorem ref_od (b : Fin 4) (l : Fin 4096) (k : Fin 512) :
    val_main_v40 (F := Ideal) x5 x6 (ix3 b l k) = joined (fun k => x5 (ix3 b l k)) (fun k => x6 (ix3 b l k)) k := by
  unfold joined
  pointwise [val_main_v40, val_main_v39]

/-- The merged branches. -/
theorem ref_merged (b : Fin 4) (l : Fin 4096) (n : Fin 1024) :
    val_main_v51 (F := Ideal) x0 x1 x2 x3 x4 x5 x6 x7 x8 x9 x10 x11 x12 (ix3 b l n)
      = mrow (hrow x0 x1 x2 b l) x3 x4 x5 x6 x7 x8 x9 x10 x11 x12 b l n := by
  unfold mrow branches
  simp only [← ref_gate x0 x1 x2 x3 b l, ← ref_od x5 x6 b l]
  unfold val_main_v51 val_main_v50 val_main_v48 val_main_v47 val_main_v45 val_main_v44 val_main_v42 val_main_v43 val_main_v38 val_main_v37 val_main_v36 val_main_v35
  generalize val_main_v34 (F := Ideal) x0 x1 x2 x3 = g
  generalize val_main_v40 (F := Ideal) x5 x6 = od
  pointwise [val_main_v49, val_main_v46, val_main_v41, val_main_v27, val_main_v26, val_main_v25]

/-- The update before its normalisation. -/
theorem ref_upd (b : Fin 4) (l : Fin 4096) (n : Fin 1024) :
    val_main_v52 (F := Ideal) x0 x1 x2 x3 x4 x5 x6 x7 x8 x9 x10 x11 x12 x13 (ix3 b l n)
      = proj (mrow (hrow x0 x1 x2 b l) x3 x4 x5 x6 x7 x8 x9 x10 x11 x12 b l) (fun j k => x13 (ix2 j k)) n := by
  unfold proj
  simp only [← ref_merged x0 x1 x2 x3 x4 x5 x6 x7 x8 x9 x10 x11 x12 b l]
  unfold val_main_v52
  generalize val_main_v51 (F := Ideal) x0 x1 x2 x3 x4 x5 x6 x7 x8 x9 x10 x11 x12 = u
  pointwise []

/-- The reference's result. -/
theorem ref_result (b : Fin 4) (l : Fin 4096) (n : Fin 1024) :
    val_main_v68 (F := Ideal) x0 x1 x2 x3 x4 x5 x6 x7 x8 x9 x10 x11 x12 x13 x14 (ix3 b l n)
      = result x0 x1 x2 x3 x4 x5 x6 x7 x8 x9 x10 x11 x12 x13 x14 b l n := by
  unfold result
  rw [show proj (mrow (hrow x0 x1 x2 b l) x3 x4 x5 x6 x7 x8 x9 x10 x11 x12 b l) (fun j k => x13 (ix2 j k))
      = fun k => val_main_v52 (F := Ideal) x0 x1 x2 x3 x4 x5 x6 x7 x8 x9 x10 x11 x12 x13 (ix3 b l k) from
    funext fun k => (ref_upd x0 x1 x2 x3 x4 x5 x6 x7 x8 x9 x10 x11 x12 x13 b l k).symm]
  unfold val_main_v68 val_main_v67 val_main_v66 val_main_v65 val_main_v64 val_main_v63 val_main_v62 val_main_v61 val_main_v60 val_main_v59 val_main_v57 val_main_v55 val_main_v54 val_main_v53
  generalize val_main_v52 (F := Ideal) x0 x1 x2 x3 x4 x5 x6 x7 x8 x9 x10 x11 x12 x13 = u
  pointwise [val_main_v58, val_main_cst_7, val_main_v56, val_main_cst_6, val_main_cst_5, val_main_v2, gated, rms]

end

end Cert.Reference3Ideal.Merge
-- ==== Proof.MergeTie.lean ====
/-
  The array the merging call leaves is the reference's result: the blocks of its inputs are entries of the arguments, and every block
  written back is the formula of the reference at the block's rows.
-/
module

public import proofs.«01_k».proof.Proof.Merge
public import proofs.«01_k».proof.Proof.MergeRead
public import Idealize.ShloMosaic.Lib.Claim

@[expose] public section

set_option maxRecDepth 16384

noncomputable section

namespace Cert.Kernel3Ideal.Merge

open Idealize.ShloMosaic Idealize.ShloMosaic.TcCoe Idealize.ShloMosaic.Tactic
open Cert.Kernel3Ideal Cert.Kernel3Ideal.Gen
open Cert.Rows

theorem index0 : ∀ t : Fin grid0.N, win0_0.index t = ![t.val / 8, t.val % 8, 0] := by decide +kernel
theorem index1 : ∀ t : Fin grid0.N, win0_1.index t = ![t.val / 8, 0, 0] := by decide +kernel
theorem index2 : ∀ t : Fin grid0.N, win0_2.index t = ![t.val / 8, 0, 1] := by decide +kernel
theorem index3 : ∀ t : Fin grid0.N, win0_3.index t = ![t.val / 8, 0, 2] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val / 8, t.val % 8, 0] := by decide +kernel
theorem index7 : ∀ t : Fin grid0.N, win0_7.index t = ![t.val / 8, t.val % 8, 0] := by decide +kernel
theorem index8 : ∀ t : Fin grid0.N, win0_8.index t = ![t.val / 8, t.val % 8, 0] := by decide +kernel
theorem index9 : ∀ t : Fin grid0.N, win0_9.index t = ![t.val / 8, t.val % 8, 0] := by decide +kernel
theorem index10 : ∀ t : Fin grid0.N, win0_10.index t = ![t.val / 8, t.val % 8, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![0, 0] := by decide +kernel
theorem index15 : ∀ t : Fin grid0.N, win0_15.index t = ![0, 0] := by decide +kernel
theorem index16 : ∀ t : Fin grid0.N, win0_16.index t = ![0, 0] := by decide +kernel
theorem index17 : ∀ t : Fin grid0.N, win0_17.index t = ![t.val / 8, t.val % 8, 0] := by decide +kernel

section
variable (m : (ℓ : Loc nD τ sig) → Buf (Elt Ideal) ℓ) (c : Dev nD)

/-- A point's batch. -/
def batch (t : Fin cfg0.N) : Fin 4 := ⟨t.val / 8, by have ht : t.val < 32 := Nat.lt_of_lt_of_eq t.isLt N_0; omega⟩

/-- A tile's row in its array. -/
def rowOf (t : Fin cfg0.N) (r : Fin 512) : Fin 4096 := ⟨512 * (t.val % 8) + r.val, by have hr := r.isLt; omega⟩

/-- The residual stream. -/
theorem b0_at (t : Fin cfg0.N) (r : Fin 512) (n : Fin 1024) :
    (iblk m c 0 t : Vec Ideal S1x512x1024 .f32) (ix3 0 r n) = m (c.tc.loc main_arg0) (ix3 (batch t) (rowOf t r) n) := by
  blk_simp [iblk, V, index0 t]
  entry_read
  exact congrArg (m (c.tc.loc main_arg0)) (by blk_ext [index0 t, batch, rowOf])

/-- The Fourier branch. -/
theorem b6_at (t : Fin cfg0.N) (r : Fin 512) (n : Fin 384) :
    (iblk m c 6 t : Vec Ideal S1x512x384 .bf16) (ix3 0 r n) = m (c.tc.loc main_arg4) (ix3 (batch t) (rowOf t r) n) := by
  blk_simp [iblk, V, index6 t]
  entry_read
  exact congrArg (m (c.tc.loc main_arg4)) (by blk_ext [index6 t, batch, rowOf])

/-- The differential branch, three heads. -/
theorem b7_at (t : Fin cfg0.N) (r : Fin 512) (n : Fin 384) :
    (iblk m c 7 t : Vec Ideal S1x512x384 .bf16) (ix3 0 r n) = m (c.tc.loc main_arg5) (ix3 (batch t) (rowOf t r) n) := by
  blk_simp [iblk, V, index7 t]
  entry_read
  exact congrArg (m (c.tc.loc main_arg5)) (by blk_ext [index7 t, batch, rowOf])

/-- The differential branch, the last head. -/
theorem b8_at (t : Fin cfg0.N) (r : Fin 512) (n : Fin 128) :
    (iblk m c 8 t : Vec Ideal S1x512x128 .bf16) (ix3 0 r n) = m (c.tc.loc main_arg6) (ix3 (batch t) (rowOf t r) n) := by
  blk_simp [iblk, V, index8 t]
  entry_read
  exact congrArg (m (c.tc.loc main_arg6)) (by blk_ext [index8 t, batch, rowOf])

/-- The grouped branch. -/
theorem b9_at (t : Fin cfg0.N) (r : Fin 512) (n : Fin 512) :
    (iblk m c 9 t : Vec Ideal S1x512x512 .bf16) (ix3 0 r n) = m (c.tc.loc main_arg7) (ix3 (batch t) (rowOf t r) n) := by
  blk_simp [iblk, V, index9 t]
  entry_read
  exact congrArg (m (c.tc.loc main_arg7)) (by blk_ext [index9 t, batch, rowOf])

/-- The convolution branch. -/
theorem b10_at (t : Fin cfg0.N) (r : Fin 512) (n : Fin 384) :
    (iblk m c 10 t : Vec Ideal S1x512x384 .bf16) (ix3 0 r n) = m (c.tc.loc main_arg8) (ix3 (batch t) (rowOf t r) n) := by
  blk_simp [iblk, V, index10 t]
  entry_read
  exact congrArg (m (c.tc.loc main_arg8)) (by blk_ext [index10 t, batch, rowOf])

/-- The shifts. -/
theorem b1_at (t : Fin cfg0.N) (n : Fin 1024) :
    (iblk m c 1 t : Vec Ideal S1x1x1024 .f32) (ix3 0 0 n) = m (c.tc.loc main_arg1) (ix3 (batch t) 0 ⟨n, by omega⟩) := by
  blk_simp [iblk, V, index1 t]
  entry_read
  exact congrArg (m (c.tc.loc main_arg1)) (by blk_ext [index1 t, batch])

/-- The scales. -/
theorem b2_at (t : Fin cfg0.N) (n : Fin 1024) :
    (iblk m c 2 t : Vec Ideal S1x1x1024 .f32) (ix3 0 0 n) = m (c.tc.loc main_arg1) (ix3 (batch t) 0 ⟨1024 + n, by omega⟩) := by
  blk_simp [iblk, V, index2 t]
  entry_read
  exact congrArg (m (c.tc.loc main_arg1)) (by blk_ext [index2 t, batch])

/-- The gates of the residual. -/
theorem b3_at (t : Fin cfg0.N) (n : Fin 1024) :
    (iblk m c 3 t : Vec Ideal S1x1x1024 .f32) (ix3 0 0 n) = m (c.tc.loc main_arg1) (ix3 (batch t) 0 ⟨2048 + n, by omega⟩) := by
  blk_simp [iblk, V, index3 t]
  entry_read
  exact congrArg (m (c.tc.loc main_arg1)) (by blk_ext [index3 t, batch])

/-- The gains before. -/
theorem b4_at (t : Fin cfg0.N) (n : Fin 1024) :
    (iblk m c 4 t : Vec Ideal S1x1024 .f32) (ix2 0 n) = m (c.tc.loc main_arg2) (ix1 n) := by
  blk_simp [iblk, V, index4 t]
  entry_read
  have e : ((View.whole main_v0).slice (win0_4.rect t)).emb (ix2 0 n) = ix2 0 n := by blk_ext [index4 t]
  refine (congrArg _ e).trans ?_
  show shapeCast S1x1024 _ _ (ix2 0 n) = _
  generalize m (c.tc.loc main_arg2) = y
  pointwise []

/-- The gains after. -/
theorem b16_at (t : Fin cfg0.N) (n : Fin 1024) :
    (iblk m c 16 t : Vec Ideal S1x1024 .f32) (ix2 0 n) = m (c.tc.loc main_arg14) (ix1 n) := by
  blk_simp [iblk, V, index16 t]
  entry_read
  have e : ((View.whole main_v7).slice (win0_16.rect t)).emb (ix2 0 n) = ix2 0 n := by blk_ext [index16 t]
  refine (congrArg _ e).trans ?_
  show shapeCast S1x1024 _ _ (ix2 0 n) = _
  generalize m (c.tc.loc main_arg14) = y
  pointwise []

/-- The gates' weights. -/
theorem b5_at (t : Fin cfg0.N) (k : Fin 1024) (j : Fin 4096) :
    (iblk m c 5 t : Vec Ideal S1024x4096 .bf16) (ix2 k j) = m (c.tc.loc main_arg3) (ix2 k j) := by
  blk_simp [iblk, V, index5 t]
  entry_read
  have e : ((View.whole main_v1).slice (win0_5.rect t)).emb (ix2 k j) = ix2 k j := by blk_ext [index5 t]
  exact (congrArg _ e).trans rfl

/-- The Fourier branch's weights. -/
theorem b11_at (t : Fin cfg0.N) (k : Fin 384) (j : Fin 1024) :
    (iblk m c 11 t : Vec Ideal S384x1024 .bf16) (ix2 k j) = m (c.tc.loc main_arg9) (ix2 k j) := by
  blk_simp [iblk, V, index11 t]
  entry_read
  have e : ((View.whole main_v2).slice (win0_11.rect t)).emb (ix2 k j) = ix2 k j := by blk_ext [index11 t]
  exact (congrArg _ e).trans rfl

/-- The differential branch's weights. -/
theorem b12_at (t : Fin cfg0.N) (k : Fin 512) (j : Fin 1024) :
    (iblk m c 12 t : Vec Ideal S512x1024 .bf16) (ix2 k j) = m (c.tc.loc main_arg10) (ix2 k j) := by
  blk_simp [iblk, V, index12 t]
  entry_read
  have e : ((View.whole main_v3).slice (win0_12.rect t)).emb (ix2 k j) = ix2 k j := by blk_ext [index12 t]
  exact (congrArg _ e).trans rfl

/-- The grouped branch's weights. -/
theorem b13_at (t : Fin cfg0.N) (k : Fin 512) (j : Fin 1024) :
    (iblk m c 13 t : Vec Ideal S512x1024 .bf16) (ix2 k j) = m (c.tc.loc main_arg11) (ix2 k j) := by
  blk_simp [iblk, V, index13 t]
  entry_read
  have e : ((View.whole main_v4).slice (win0_13.rect t)).emb (ix2 k j) = ix2 k j := by blk_ext [index13 t]
  exact (congrArg _ e).trans rfl

/-- The convolution branch's weights. -/
theorem b14_at (t : Fin cfg0.N) (k : Fin 384) (j : Fin 1024) :
    (iblk m c 14 t : Vec Ideal S384x1024 .bf16) (ix2 k j) = m (c.tc.loc main_arg12) (ix2 k j) := by
  blk_simp [iblk, V, index14 t]
  entry_read
  have e : ((View.whole main_v5).slice (win0_14.rect t)).emb (ix2 k j) = ix2 k j := by blk_ext [index14 t]
  exact (congrArg _ e).trans rfl

/-- The output projection's weights. -/
theorem b15_at (t : Fin cfg0.N) (k : Fin 1024) (j : Fin 1024) :
    (iblk m c 15 t : Vec Ideal S1024x1024 .bf16) (ix2 k j) = m (c.tc.loc main_arg13) (ix2 k j) := by
  blk_simp [iblk, V, index15 t]
  entry_read
  have e : ((View.whole main_v6).slice (win0_15.rect t)).emb (ix2 k j) = ix2 k j := by blk_ext [index15 t]
  exact (congrArg _ e).trans rfl

end

/-- The body's entries, the gates' weights read in four runs of columns. -/
theorem body_at (x0 : Vec Ideal S1x512x1024 .f32) (x1 x2 x3 : Vec Ideal S1x1x1024 .f32) (x4 : Vec Ideal S1x1024 .f32)
    (x5 : Vec Ideal S1024x4096 .bf16) (x6 x7 : Vec Ideal S1x512x384 .bf16) (x8 : Vec Ideal S1x512x128 .bf16) (x9 : Vec Ideal S1x512x512 .bf16)
    (x10 : Vec Ideal S1x512x384 .bf16) (x11 : Vec Ideal S384x1024 .bf16) (x12 x13 : Vec Ideal S512x1024 .bf16) (x14 : Vec Ideal S384x1024 .bf16)
    (x15 : Vec Ideal S1024x1024 .bf16) (x16 : Vec Ideal S1x1024 .f32)
    (g0 g1 g2 g3 : Vec Ideal S1024x1024 .bf16)
    (h0 : ∀ k j : Fin 1024, g0 (ix2 k j) = x5 (ix2 k ⟨j, by omega⟩)) (h1 : ∀ k j : Fin 1024, g1 (ix2 k j) = x5 (ix2 k ⟨1024 + j, by omega⟩))
    (h2 : ∀ k j : Fin 1024, g2 (ix2 k j) = x5 (ix2 k ⟨2048 + j, by omega⟩)) (h3 : ∀ k j : Fin 1024, g3 (ix2 k j) = x5 (ix2 k ⟨3072 + j, by omega⟩))
    (r : Fin 512) (n : Fin 1024) :
    k0_pay1 (k0_pay2 x0) (k0_pay6 x10) (k0_pay7 (k0_pay3 x0 x4 x1 x2) (k0_pay4 x7 x8) (k0_pay5 x6) x9 g0 x11 g1 x12 g2 x13)
        (k0_pay8 (k0_pay3 x0 x4 x1 x2) g3) x14 x15 x3 x16 (ix3 0 r n)
      = gated (fun k => x0 (ix3 0 r k)) (fun k => x3 (ix3 0 0 k))
          (proj (branches (modulated (fun k => x0 (ix3 0 r k)) (fun k => x4 (ix2 0 k)) (fun k => x2 (ix3 0 0 k)) (fun k => x1 (ix3 0 0 k)))
              (fun k j => x5 (ix2 k j)) (fun k => x6 (ix3 0 r k)) (joined (fun k => x7 (ix3 0 r k)) (fun k => x8 (ix3 0 r k)))
              (fun k => x9 (ix3 0 r k)) (fun k => x10 (ix3 0 r k)) (fun k j => x11 (ix2 k j)) (fun k j => x12 (ix2 k j))
              (fun k j => x13 (ix2 k j)) (fun k j => x14 (ix2 k j)))
            (fun j k => x15 (ix2 j k))) (fun k => x16 (ix2 0 k)) n := by
  rw [pay1_at]
  simp only [pay2_at, pay8_at, pay7_at, pay6_at, pay5_at, pay4_at, pay3_at, h0, h1, h2, h3]
  rfl

/-- What the body leaves, from the blocks of its inputs. -/
theorem out_at (x0 : Vec Ideal S1x512x1024 .f32) (x1 x2 x3 : Vec Ideal S1x1x1024 .f32) (x4 : Vec Ideal S1x1024 .f32)
    (x5 : Vec Ideal S1024x4096 .bf16) (x6 x7 : Vec Ideal S1x512x384 .bf16) (x8 : Vec Ideal S1x512x128 .bf16) (x9 : Vec Ideal S1x512x512 .bf16)
    (x10 : Vec Ideal S1x512x384 .bf16) (x11 : Vec Ideal S384x1024 .bf16) (x12 x13 : Vec Ideal S512x1024 .bf16) (x14 : Vec Ideal S384x1024 .bf16)
    (x15 : Vec Ideal S1024x1024 .bf16) (x16 : Vec Ideal S1x1024 .f32) (r : Fin 512) (n : Fin 1024) :
    out0_17 x0 x1 x2 x3 x4 x5 x6 x7 x8 x9 x10 x11 x12 x13 x14 x15 x16 (ix3 0 r n)
      = gated (fun k => x0 (ix3 0 r k)) (fun k => x3 (ix3 0 0 k))
          (proj (branches (modulated (fun k => x0 (ix3 0 r k)) (fun k => x4 (ix2 0 k)) (fun k => x2 (ix3 0 0 k)) (fun k => x1 (ix3 0 0 k)))
              (fun k j => x5 (ix2 k j)) (fun k => x6 (ix3 0 r k)) (joined (fun k => x7 (ix3 0 r k)) (fun k => x8 (ix3 0 r k)))
              (fun k => x9 (ix3 0 r k)) (fun k => x10 (ix3 0 r k)) (fun k j => x11 (ix2 k j)) (fun k j => x12 (ix2 k j))
              (fun k j => x13 (ix2 k j)) (fun k j => x14 (ix2 k j)))
            (fun j k => x15 (ix2 j k))) (fun k => x16 (ix2 0 k)) n := by
  have z2 : (![0, 0] : Fin 2 → ℕ) = fun _ => 0 := by funext a; fin_cases a <;> rfl
  have z3 : (![0, 0, 0] : Fin 3 → ℕ) = fun _ => 0 := by funext a; fin_cases a <;> rfl
  have e0 : View.ld x0 r0_0 = x0 := View.ld_unit_zero z3 _ x0
  have e1 : View.ld x1 r0_2 = x1 := View.ld_unit_zero z3 _ x1
  have e2 : View.ld x2 r0_2 = x2 := View.ld_unit_zero z3 _ x2
  have e3 : View.ld x3 r0_2 = x3 := View.ld_unit_zero z3 _ x3
  have e4 : View.ld x4 r0_1 = x4 := View.ld_unit_zero z2 _ x4
  have e6 : View.ld x6 r0_3 = x6 := View.ld_unit_zero z3 _ x6
  have e7 : View.ld x7 r0_3 = x7 := View.ld_unit_zero z3 _ x7
  have e8 : View.ld x8 r0_4 = x8 := View.ld_unit_zero z3 _ x8
  have e9 : View.ld x9 r0_5 = x9 := View.ld_unit_zero z3 _ x9
  have e10 : View.ld x10 r0_3 = x10 := View.ld_unit_zero z3 _ x10
  have e11 : View.ld x11 r0_7 = x11 := View.ld_unit_zero z2 _ x11
  have e12 : View.ld x12 r0_9 = x12 := View.ld_unit_zero z2 _ x12
  have e13 : View.ld x13 r0_9 = x13 := View.ld_unit_zero z2 _ x13
  have e14 : View.ld x14 r0_7 = x14 := View.ld_unit_zero z2 _ x14
  have e15 : View.ld x15 r0_12 = x15 := View.ld_unit_zero z2 _ x15
  have e16 : View.ld x16 r0_1 = x16 := View.ld_unit_zero z2 _ x16
  unfold out0_17 k0_pay9
  rw [e0, e1, e2, e3, e4, e6, e7, e8, e9, e10, e11, e12, e13, e14, e15, e16]
  refine (congrFun (View.canon_unit_zero z3 _ _) _).trans ?_
  refine body_at x0 x1 x2 x3 x4 x5 x6 x7 x8 x9 x10 x11 x12 x13 x14 x15 x16 _ _ _ _ ?_ ?_ ?_ ?_ r n
  all_goals
    intro a b
    refine View.ld_unit_apply_of _ _ _ _ _ _ fun c => ?_
    fin_cases c <;> simp

section
variable (m : (ℓ : Loc nD τ sig) → Buf (Elt Ideal) ℓ) (c : Dev nD)

/-- The array after the run is the reference's result of the arguments. -/
theorem array : (dats m 0 c).arrAt 17 cfg0.N
    = Cert.Reference3Ideal.Read.val_main_v68 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) := by
  refine (dats m 0 c).arrAt_eq_of_covers 17 _ (by decide +kernel) fun t hf y => ?_
  blk_simp
  rw [after0_17]
  obtain ⟨r, n, e⟩ : ∃ r n, (y : S1x512x1024.Idx) = ix3 0 r n := ⟨y 1, y 2, by funext a; fin_cases a <;> first | rfl | exact Fin.ext (by have := (y 0).isLt; simp at this ⊢)⟩
  rw [e]
  have i : ((cfg0.win 17).blk t).view.emb (ix3 0 r n) = ix3 (batch t) (rowOf t r) n := by blk_ext [index17 t, batch, rowOf]
  refine (out_at _ _ _ _ _ _ _ _ _ _ _ _ _ _ _ _ _ r n).trans (Eq.trans ?_ (congrArg _ i).symm)
  rw [Cert.Reference3Ideal.Merge.ref_result]
  simp only [b0_at, b1_at, b2_at, b3_at, b4_at, b5_at, b6_at, b7_at, b8_at, b9_at, b10_at, b11_at, b12_at, b13_at, b14_at, b15_at, b16_at]
  rfl

end

end Cert.Kernel3Ideal.Merge
-- ==== Proof.lean ====
/-
  The claims, of the attention, the merge and the feed-forward: the programs run to completion with their arguments unchanged; a kernel at
  the reals is the kernel, the attention's with its rounded scale named; and over the reals a kernel's results are its reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Launch
public import proofs.«01_k».proof.Proof.Words
public import proofs.«01_k».proof.Proof.Words2
public import proofs.«01_k».proof.Proof.Arrays
public import proofs.«01_k».proof.Proof.Finite
public import proofs.«01_k».proof.Proof.MlpTie
public import proofs.«01_k».proof.Proof.MergeTie
public import Idealize.ShloMosaic.Adequacy
public import Idealize.ShloMosaic.Init
public import Idealize.ShloMosaic.Lib.Quiescent

@[expose] public section

noncomputable section

namespace Cert.Proof

open Idealize.ShloMosaic Idealize.SL.Sem

/-- The ideal kernel runs, its arguments unchanged. -/
theorem frame_ideal : Cert.quiescent_KernelIdeal := fun m ρ _ => Cert.KernelIdeal.Attn.run_main (F := Ideal) m ρ

/-- The reference runs, its arguments unchanged. -/
theorem frame_reference : Cert.quiescent_ReferenceIdeal := fun m ρ _ =>
  (θ_run (Cert.ReferenceIdeal.defs (F := Ideal)) _ _).mono
    (fun _ h => ⟨fun c => (h c).2.2.2, sem_eq_zero_of_no_sems rfl _⟩)
    (Cert.ReferenceIdeal.Value.run (F := Ideal) m ρ)

/-- The scale the ideal kernel names is the compiled kernel's rounded one. -/
theorem keeps : Cert.preserves_Kernel_KernelIdeal :=
  IdealRules.named_const.statement Cert.KernelIdeal.κ "q_prescale" .f32 0x3E38AA3B#32 (((8 * (Real.log 2))⁻¹ : ℝ) : EReal) rfl

/-- From memories whose arguments agree and, but for the gains, have real entries, the kernel and the reference end with equal results. -/
theorem agree : Cert.algebraic_KernelIdeal_ReferenceIdeal_pre_finite (hPre_finite := Cert.Attn.pre_facts) := by
  intro m g m' g' hpre hargs
  refine ⟨fun c => Cert.ReferenceIdeal.Value.res_main_v78 m' c, fun c => Cert.ReferenceIdeal.Value.res_main_v80 m' c,
    fun c => Cert.ReferenceIdeal.Read.val_main_v81 (F := Ideal) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)), ?_, ?_⟩
  · refine (θ_run (Cert.KernelIdeal.defs (F := Ideal)) _ _).mono (fun r h c => ?_) (Cert.KernelIdeal.Attn.run_quiescent (F := Ideal) m g)
    obtain ⟨r0, r1, r2⟩ := Cert.KernelIdeal.Attn.results m c r h.1 (Cert.Attn.finite_of m hpre c)
    obtain ⟨e0, e1, e2, e3, e4, e5, e6, e7, e8, e9, e10, e11⟩ := hargs c
    refine ⟨r0.trans ?_, r1.trans ?_, r2.trans ?_, Cert.KernelIdeal.Attn.unchanged_of m r h.1 c⟩
    · beta_reduce
      rw [Cert.ReferenceIdeal.Read.val_main_v78_eq, e0, e2, e3, e6, e7, e10, e11]
    · beta_reduce
      rw [Cert.ReferenceIdeal.Read.val_main_v80_eq, e0, e2, e3, e6, e7, e10, e11]
    · beta_reduce
      rw [e1, e4, e5, e8, e9]
  · exact (θ_run (Cert.ReferenceIdeal.defs (F := Ideal)) _ _).mono
      (fun r h c => ⟨(h c).1, (h c).2.1, (h c).2.2.1.trans (Cert.ReferenceIdeal.Read.val_main_v81_eq _ _ _ _ _), (h c).2.2.2⟩)
      (Cert.ReferenceIdeal.Value.run (F := Ideal) m' g')

/-- The feed-forward's kernel runs at the reals. -/
theorem frame_ideal2 : Cert.quiescent_Kernel2Ideal := fun m ρ _ => Cert.Kernel2Ideal.Gen.frame (F := Ideal) m ρ

/-- The feed-forward's reference runs. -/
theorem frame_reference2 : Cert.quiescent_Reference2Ideal := fun m ρ _ =>
  (θ_run (Cert.Reference2Ideal.defs (F := Ideal)) _ _).mono
    (fun _ h => ⟨fun c => (h c).2, sem_eq_zero_of_no_sems rfl _⟩)
    (Cert.Reference2Ideal.Value.run (F := Ideal) m ρ)

/-- The feed-forward: from memories whose arguments agree, the kernel and the reference end with equal results. -/
theorem agree2 : Cert.algebraic_Kernel2Ideal_Reference2Ideal := by
  intro m g m' g' _ hargs
  refine ⟨fun c => Cert.Reference2Ideal.Value.res_main_v44 m' c, ?_, ?_⟩
  · refine (θ_run (Cert.Kernel2Ideal.defs (F := Ideal)) _ _).mono (fun r h c => ⟨(h c).1.trans ?_, (h c).2⟩)
      (Cert.Kernel2Ideal.Value.run_blocks (F := Ideal) m g)
    obtain ⟨e0, e1, e2, e3, e4, e5⟩ := hargs c
    refine (Cert.Kernel2Ideal.Mlp.array m c).trans ?_
    beta_reduce
    rw [Cert.Reference2Ideal.Read.val_main_v44_eq, e0, e1, e2, e3, e4, e5]
  · exact Cert.Reference2Ideal.Value.run (F := Ideal) m' g'

/-- The merge's kernel runs at the reals. -/
theorem frame_ideal3 : Cert.quiescent_Kernel3Ideal := fun m ρ _ => Cert.Kernel3Ideal.Gen.frame (F := Ideal) m ρ

/-- The merge's reference runs. -/
theorem frame_reference3 : Cert.quiescent_Reference3Ideal := fun m ρ _ =>
  (θ_run (Cert.Reference3Ideal.defs (F := Ideal)) _ _).mono
    (fun _ h => ⟨fun c => (h c).2, sem_eq_zero_of_no_sems rfl _⟩)
    (Cert.Reference3Ideal.Value.run (F := Ideal) m ρ)

/-- The merge: from memories whose arguments agree, the kernel and the reference end with equal results. -/
theorem agree3 : Cert.algebraic_Kernel3Ideal_Reference3Ideal := by
  intro m g m' g' _ hargs
  refine ⟨fun c => Cert.Reference3Ideal.Value.res_main_v68 m' c, ?_, ?_⟩
  · refine (θ_run (Cert.Kernel3Ideal.defs (F := Ideal)) _ _).mono (fun r h c => ⟨(h c).1.trans ?_, (h c).2⟩)
      (Cert.Kernel3Ideal.Value.run_blocks (F := Ideal) m g)
    obtain ⟨e0, e1, e2, e3, e4, e5, e6, e7, e8, e9, e10, e11, e12, e13, e14⟩ := hargs c
    refine (Cert.Kernel3Ideal.Merge.array m c).trans ?_
    beta_reduce
    rw [Cert.Reference3Ideal.Read.val_main_v68_eq, e0, e1, e2, e3, e4, e5, e6, e7, e8, e9, e10, e11, e12, e13, e14]
  · exact Cert.Reference3Ideal.Value.run (F := Ideal) m' g'

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Attn.pre_facts,
  frame_kernel, frame_ideal, fun m ρ _ => frame_ideal m ρ trivial, frame_reference, fun m ρ _ => frame_reference m ρ trivial,
  frame_kernel2, frame_ideal2, frame_reference2, frame_kernel3, frame_ideal3, frame_reference3,
  keeps, agree, trivial, agree2, trivial, agree3⟩

end Cert.Proof

end
